-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_thirty_nearest_apart [hPre_thirty_nearest_apart : Cert.Pre_thirty_nearest_apart.Facts] (m : (ℓ : Loc Cert.KernelIdeal.nD Cert.KernelIdeal.τ Cert.KernelIdeal.sig) → Buf (Elt Ideal) ℓ) : Prop :=
  ∀ c : Dev Cert.KernelIdeal.nD,
    (Cert.Pre_thirty_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_thirty_nearest_apart [hPre_thirty_nearest_apart : Cert.Pre_thirty_nearest_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_thirty_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_thirty_nearest_apart [hKernelIdeal : Cert.KernelIdeal.Facts] [hPre_thirty_nearest_apart : Cert.Pre_thirty_nearest_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_thirty_nearest_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_thirty_nearest_apart [hReferenceIdeal : Cert.ReferenceIdeal.Facts] [hPre_thirty_nearest_apart : Cert.Pre_thirty_nearest_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_thirty_nearest_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_n" .f32 0x38D1B717#32 ((1 / 10000 : ℝ) : EReal)

def algebraic_KernelIdeal_ReferenceIdeal_on_all_but_cost [hKernelIdeal : Cert.KernelIdeal.Facts] [hReferenceIdeal : Cert.ReferenceIdeal.Facts] [hOn_all_but_cost : Cert.On_all_but_cost.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v11_0) i = v0 c i)
          ∧ (∀ i : (⟨2, ![10000, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v11_1) i = v1 c i)
          ∧ (∀ i : (⟨2, ![10000, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.KernelIdeal.nD Cert.KernelIdeal.τ).loc Cert.KernelIdeal.main_v11_2) i = v2 c i)
          ∧ (∀ i : (⟨2, ![10000, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.KernelIdeal.nD Cert.KernelIdeal.τ).loc Cert.KernelIdeal.main_v11_3) i = v3 c i)
          ∧ (∀ i : (⟨2, ![10000, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.KernelIdeal.nD Cert.KernelIdeal.τ).loc Cert.KernelIdeal.main_v11_4) i = v4 c i)
          ∧ (∀ i : (⟨2, ![10000, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 i = 1#1 → r.2.mem ((c.tc : Thread Cert.KernelIdeal.nD Cert.KernelIdeal.τ).loc Cert.KernelIdeal.main_v11_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v121) i = v0 c i)
          ∧ (∀ i : (⟨2, ![10000, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceIdeal.nD Cert.ReferenceIdeal.τ).loc Cert.ReferenceIdeal.main_v122) i = v1 c i)
          ∧ (∀ i : (⟨2, ![10000, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.ReferenceIdeal.nD Cert.ReferenceIdeal.τ).loc Cert.ReferenceIdeal.main_v123) i = v2 c i)
          ∧ (∀ i : (⟨2, ![10000, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.ReferenceIdeal.nD Cert.ReferenceIdeal.τ).loc Cert.ReferenceIdeal.main_v124) i = v3 c i)
          ∧ (∀ i : (⟨2, ![10000, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.ReferenceIdeal.nD Cert.ReferenceIdeal.τ).loc Cert.ReferenceIdeal.main_v125) i = v4 c i)
          ∧ (∀ i : (⟨2, ![10000, 1]⟩ : Shape).Idx, (Cert.On_all_but_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 i = 1#1 → r.2.mem ((c.tc : Thread Cert.ReferenceIdeal.nD Cert.ReferenceIdeal.τ).loc Cert.ReferenceIdeal.main_v126) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def algebraic_KernelIdeal_ReferenceIdeal_pre_thirty_nearest_apart [hKernelIdeal : Cert.KernelIdeal.Facts] [hReferenceIdeal : Cert.ReferenceIdeal.Facts] [hPre_thirty_nearest_apart : Cert.Pre_thirty_nearest_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_thirty_nearest_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v124) = v3 c
          ∧ r.2.mem ((c.tc : Thread Cert.ReferenceIdeal.nD Cert.ReferenceIdeal.τ).loc Cert.ReferenceIdeal.main_v125) = v4 c
          ∧ r.2.mem ((c.tc : Thread Cert.ReferenceIdeal.nD Cert.ReferenceIdeal.τ).loc Cert.ReferenceIdeal.main_v126) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_thirty_nearest_apart : Cert.Pre_thirty_nearest_apart.Facts) (hOn_all_but_cost : Cert.On_all_but_cost.Facts),
    quiescent_Kernel (hKernel := hKernel)
    ∧ quiescent_KernelIdeal (hKernelIdeal := hKernelIdeal)
    ∧ quiescent_KernelIdeal_pre_thirty_nearest_apart (hKernelIdeal := hKernelIdeal) (hPre_thirty_nearest_apart := hPre_thirty_nearest_apart)
    ∧ quiescent_ReferenceIdeal (hReferenceIdeal := hReferenceIdeal)
    ∧ quiescent_ReferenceIdeal_pre_thirty_nearest_apart (hReferenceIdeal := hReferenceIdeal) (hPre_thirty_nearest_apart := hPre_thirty_nearest_apart)
    ∧ preserves_Kernel_KernelIdeal
    ∧ algebraic_KernelIdeal_ReferenceIdeal_on_all_but_cost (hKernelIdeal := hKernelIdeal) (hReferenceIdeal := hReferenceIdeal) (hOn_all_but_cost := hOn_all_but_cost)
    ∧ algebraic_KernelIdeal_ReferenceIdeal_pre_thirty_nearest_apart (hKernelIdeal := hKernelIdeal) (hReferenceIdeal := hReferenceIdeal) (hPre_thirty_nearest_apart := hPre_thirty_nearest_apart)
-- ==== On_all_but_cost.lean ====
abbrev S10000 : Shape := ⟨1, ![10000]⟩
abbrev S1 : Shape := ⟨1, ![1]⟩
abbrev S_ : Shape := ⟨0, ![]⟩
abbrev S2x100 : Shape := ⟨2, ![2, 100]⟩
abbrev S100 : Shape := ⟨1, ![100]⟩
abbrev S100x3 : Shape := ⟨2, ![100, 3]⟩
abbrev S3 : Shape := ⟨1, ![3]⟩
abbrev S10000x1 : Shape := ⟨2, ![10000, 1]⟩
abbrev S1x1 : Shape := ⟨2, ![1, 1]⟩

class Facts : Prop where
  bcast_S_S10000x1 : S_.BroadcastsInDim S10000x1 (![] : Fin 0 → Fin S10000x1.rank)
  bcast_S_S1x1 : S_.BroadcastsInDim S1x1 (![] : Fin 0 → Fin S1x1.rank)

variable [Facts]

def fn {F : FTy → Type} [FloatOps F] (main_arg0 : FVec F S10000 .f32) (main_arg1 : FVec F S10000 .f32) (main_arg2 : FVec F S1 .f32) (main_arg3 : FVec F S1 .f32) (main_arg4 : FVec F S1 .f32) (main_arg5 : FVec F S10000 .f32) (main_arg6 : FVec F S10000 .f32) (main_arg7 : IVec S_ 32) (main_arg8 : FVec F S2x100 .f32) (main_arg9 : FVec F S100 .f32) (main_arg10 : FVec F S100x3 .f32) (main_arg11 : FVec F S3 .f32) : IVec S1x1 1 × IVec S10000x1 1 × IVec S10000x1 1 × IVec S10000x1 1 × IVec S10000x1 1 × IVec S10000x1 1 :=
  let main_c : IVec S_ 1 := constantI S_ 1 1#1
  let main_v0 : IVec S10000x1 1 := broadcastInDim S10000x1 ![] bcast_S_S10000x1 main_c
  let main_c_0 : IVec S_ 1 := constantI S_ 1 0#1
  let main_v1 : IVec S1x1 1 := broadcastInDim S1x1 ![] bcast_S_S1x1 main_c_0
  (main_v1, main_v0, main_v0, main_v0, main_v0, main_v0)
-- ==== Pre_thirty_nearest_apart.lean ====
abbrev S10000 : Shape := ⟨1, ![10000]⟩
abbrev S1 : Shape := ⟨1, ![1]⟩
abbrev S_ : Shape := ⟨0, ![]⟩
abbrev S2x100 : Shape := ⟨2, ![2, 100]⟩
abbrev S100 : Shape := ⟨1, ![100]⟩
abbrev S100x3 : Shape := ⟨2, ![100, 3]⟩
abbrev S3 : Shape := ⟨1, ![3]⟩
abbrev S10000x1 : Shape := ⟨2, ![10000, 1]⟩
abbrev S10000x2 : Shape := ⟨2, ![10000, 2]⟩
abbrev S1x10000 : Shape := ⟨2, ![1, 10000]⟩
abbrev S10000x10000 : Shape := ⟨2, ![10000, 10000]⟩
abbrev S2x10000 : Shape := ⟨2, ![2, 10000]⟩
abbrev S10000x31 : Shape := ⟨2, ![10000, 31]⟩

class Facts : Prop where
  bcast_S10000_S10000x1_0 : S10000.BroadcastsInDim S10000x1 (![0] : Fin 1 → Fin S10000x1.rank)
  concatenates_S10000x1_S10000x1_S10000x2_d1 : Shape.Concatenates [S10000x1, S10000x1] S10000x2 1
  reducesTo_S10000x2_S10000_d1 : S10000x2.ReducesTo [1] S10000
  h_S_ : 0 < S_.numel
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x2_S2x10000_1_0 : S10000x2.Transposes [1, 0] S2x10000
  bcast_S_S10000x10000 : S_.BroadcastsInDim S10000x10000 (![] : Fin 0 → Fin S10000x10000.rank)
  sliceFits_S10000x10000_S10000x31 : S10000x10000.Slices (fun _ => 0) S10000x31
  slices_S10000x31_S10000x1_0_29 : S10000x31.Slices ![0, 29] S10000x1
  shapeCasts_S10000x1_S10000 : S10000x1.ShapeCasts S10000
  slices_S10000x31_S10000x1_0_30 : S10000x31.Slices ![0, 30] S10000x1
  bcast_S_S10000 : S_.BroadcastsInDim S10000 (![] : Fin 0 → Fin S10000.rank)
  reducesTo_S10000_S_d0 : S10000.ReducesTo [0] S_
  bcast_S_S1 : S_.BroadcastsInDim S1 (![] : Fin 0 → Fin S1.rank)
  bcast_S1_S10000_0 : S1.BroadcastsInDim S10000 (![0] : Fin 1 → Fin S10000.rank)
  dot_S10000x2_S2x10000_S10000x10000_1_0_0_1_n_n_wf : DotDims.WF S10000x2 S2x10000 S10000x10000 [1] [0] [0] [1] [] []

variable [Facts]

def dot_S10000x2_S2x10000_S10000x10000_1_0_0_1_n_n : DotDims S10000x2 S2x10000 S10000x10000 where
  lhsContracting := [1]
  rhsContracting := [0]
  lhsNonContracting := [0]
  rhsNonContracting := [1]
  lhsBatch := []
  rhsBatch := []
  wf := dot_S10000x2_S2x10000_S10000x10000_1_0_0_1_n_n_wf
def fn_part3 {F : FTy → Type} [FloatOps F] (main_arg4 : FVec F S1 .f32) (main_v54 : IVec S10000 1) (main_v55 : FVec F S1 .f32) (main_v56 : FVec F S1 .f32) : IVec S10000 1 :=
  let main_v57 : IVec S1 1 := cmpf .ole main_v55 main_v56
  let main_v58 : IVec S10000 1 := broadcastInDim S10000 ![0] bcast_S1_S10000_0 main_v57
  let main_v59 : IVec S10000 1 := andi main_v54 main_v58
  let main_v60 : FVec F S1 .f32 := Host.absf main_arg4
  let main_cst_12 : FVec F S_ .f32 := constant S_ .f32 0x5D800000#32
  let main_v61 : FVec F S1 .f32 := broadcastInDim S1 ![] bcast_S_S1 main_cst_12
  let main_v62 : IVec S1 1 := cmpf .ole main_v60 main_v61
  let main_v63 : IVec S10000 1 := broadcastInDim S10000 ![0] bcast_S1_S10000_0 main_v62
  let main_v64 : IVec S10000 1 := andi main_v59 main_v63
  main_v64

def fn_part2 {F : FTy → Type} [FloatOps F] (main_arg0 : FVec F S10000 .f32) (main_arg1 : FVec F S10000 .f32) (main_arg2 : FVec F S1 .f32) (main_arg3 : FVec F S1 .f32) (main_arg4 : FVec F S1 .f32) (main_arg6 : FVec F S10000 .f32) (main_v37 : IVec S10000 1) : IVec S10000 1 :=
  let main_v38 : FVec F S10000 .f32 := Host.absf main_arg6
  let main_cst_7 : FVec F S_ .f32 := constant S_ .f32 0x5D800000#32
  let main_v39 : FVec F S10000 .f32 := broadcastInDim S10000 ![] bcast_S_S10000 main_cst_7
  let main_v40 : IVec S10000 1 := cmpf .ole main_v38 main_v39
  let main_v41 : IVec S10000 1 := andi main_v37 main_v40
  let main_v42 : FVec F S10000 .f32 := Host.absf main_arg0
  let main_cst_8 : FVec F S_ .f32 := constant S_ .f32 0x5D800000#32
  let main_v43 : FVec F S10000 .f32 := broadcastInDim S10000 ![] bcast_S_S10000 main_cst_8
  let main_v44 : IVec S10000 1 := cmpf .ole main_v42 main_v43
  let main_v45 : IVec S10000 1 := andi main_v41 main_v44
  let main_v46 : FVec F S10000 .f32 := Host.absf main_arg1
  let main_cst_9 : FVec F S_ .f32 := constant S_ .f32 0x5D800000#32
  let main_v47 : FVec F S10000 .f32 := broadcastInDim S10000 ![] bcast_S_S10000 main_cst_9
  let main_v48 : IVec S10000 1 := cmpf .ole main_v46 main_v47
  let main_v49 : IVec S10000 1 := andi main_v45 main_v48
  let main_v50 : FVec F S1 .f32 := Host.absf main_arg2
  let main_cst_10 : FVec F S_ .f32 := constant S_ .f32 0x5D800000#32
  let main_v51 : FVec F S1 .f32 := broadcastInDim S1 ![] bcast_S_S1 main_cst_10
  let main_v52 : IVec S1 1 := cmpf .ole main_v50 main_v51
  let main_v53 : IVec S10000 1 := broadcastInDim S10000 ![0] bcast_S1_S10000_0 main_v52
  let main_v54 : IVec S10000 1 := andi main_v49 main_v53
  let main_v55 : FVec F S1 .f32 := Host.absf main_arg3
  let main_cst_11 : FVec F S_ .f32 := constant S_ .f32 0x5D800000#32
  let main_v56 : FVec F S1 .f32 := broadcastInDim S1 ![] bcast_S_S1 main_cst_11
  fn_part3 (F := F) main_arg4 main_v54 main_v55 main_v56

def fn_part1 {F : FTy → Type} [FloatOps F] (main_arg0 : FVec F S10000 .f32) (main_arg1 : FVec F S10000 .f32) (main_arg2 : FVec F S1 .f32) (main_arg3 : FVec F S1 .f32) (main_arg4 : FVec F S1 .f32) (main_arg5 : FVec F S10000 .f32) (main_arg6 : FVec F S10000 .f32) (main_v4 : FVec F S10000 .f32) (main_v18 : FVec F S10000 .f32) (main_v19 : FVec F S10000x1 .f32) : IVec S10000 1 :=
  let main_v20 : FVec F S10000 .f32 := shapeCast S10000 main_v19 shapeCasts_S10000x1_S10000
  let main_v21 : FVec F S10000 .f32 := Host.negf main_v20
  let main_cst_1 : FVec F S_ .f32 := constant S_ .f32 0x43400000#32
  let main_v22 : FVec F S10000 .f32 := broadcastInDim S10000 ![] bcast_S_S10000 main_cst_1
  let main_v23 : FVec F S10000 .f32 := mulf main_v21 main_v22
  let main_cst_2 : FVec F S_ .f32 := constant S_ .f32 0x43410000#32
  let main_v24 : FVec F S10000 .f32 := broadcastInDim S10000 ![] bcast_S_S10000 main_cst_2
  let main_v25 : FVec F S10000 .f32 := mulf main_v18 main_v24
  let main_v26 : IVec S10000 1 := cmpf .ogt main_v23 main_v25
  let main_cst_3 : FVec F S_ .f32 := constant S_ .f32 0x45DAC000#32
  let main_v27 : FVec F S10000 .f32 := broadcastInDim S10000 ![] bcast_S_S10000 main_cst_3
  let main_v28 : FVec F S10000 .f32 := mulf main_v18 main_v27
  let main_cst_4 : FVec F S_ .f32 := constant S_ .f32 0xFF800000#32
  let main_v29 : FVec F S_ .f32 := (fun x v => Host.reduce FloatOps.maximumf x v reducesTo_S10000_S_d0 h_S_) main_v4 main_cst_4
  let main_cst_5 : FVec F S_ .f32 := constant S_ .f32 0x3F800000#32
  let main_v30 : FVec F S_ .f32 := addf main_cst_5 main_v29
  let main_v31 : FVec F S10000 .f32 := broadcastInDim S10000 ![] bcast_S_S10000 main_v30
  let main_v32 : IVec S10000 1 := cmpf .oge main_v28 main_v31
  let main_v33 : IVec S10000 1 := andi main_v26 main_v32
  let main_v34 : FVec F S10000 .f32 := Host.absf main_arg5
  let main_cst_6 : FVec F S_ .f32 := constant S_ .f32 0x5D800000#32
  let main_v35 : FVec F S10000 .f32 := broadcastInDim S10000 ![] bcast_S_S10000 main_cst_6
  let main_v36 : IVec S10000 1 := cmpf .ole main_v34 main_v35
  let main_v37 : IVec S10000 1 := andi main_v33 main_v36
  fn_part2 (F := F) main_arg0 main_arg1 main_arg2 main_arg3 main_arg4 main_arg6 main_v37

def fn {F : FTy → Type} [FloatOps F] (main_arg0 : FVec F S10000 .f32) (main_arg1 : FVec F S10000 .f32) (main_arg2 : FVec F S1 .f32) (main_arg3 : FVec F S1 .f32) (main_arg4 : FVec F S1 .f32) (main_arg5 : FVec F S10000 .f32) (main_arg6 : FVec F S10000 .f32) (main_arg7 : IVec S_ 32) (main_arg8 : FVec F S2x100 .f32) (main_arg9 : FVec F S100 .f32) (main_arg10 : FVec F S100x3 .f32) (main_arg11 : FVec F S3 .f32) : IVec S10000 1 :=
  let main_v0 : FVec F S10000x1 .f32 := broadcastInDim S10000x1 ![0] bcast_S10000_S10000x1_0 main_arg5
  let main_v1 : FVec F S10000x1 .f32 := broadcastInDim S10000x1 ![0] bcast_S10000_S10000x1_0 main_arg6
  let main_v2 : FVec F S10000x2 .f32 := (fun a b => concatenate S10000x2 1 [⟨S10000x1, a⟩, ⟨S10000x1, b⟩] concatenates_S10000x1_S10000x1_S10000x2_d1) main_v0 main_v1
  let main_v3 : FVec F S10000x2 .f32 := mulf main_v2 main_v2
  let main_cst : FVec F S_ .f32 := constant S_ .f32 0x00000000#32
  let main_v4 : FVec F S10000 .f32 := (fun x v => Host.reduceAdd x v reducesTo_S10000x2_S10000_d1 h_S_) main_v3 main_cst
  let main_v5 : FVec F S10000x1 .f32 := broadcastInDim S10000x1 ![0] bcast_S10000_S10000x1_0 main_v4
  let main_v6 : FVec F S1x10000 .f32 := broadcastInDim S1x10000 ![1] bcast_S10000_S1x10000_1 main_v4
  let main_v7 : FVec F S10000x10000 .f32 := broadcastInDim S10000x10000 ![0, 1] bcast_S10000x1_S10000x10000_0_1 main_v5
  let main_v8 : FVec F S10000x10000 .f32 := broadcastInDim S10000x10000 ![0, 1] bcast_S1x10000_S10000x10000_0_1 main_v6
  let main_v9 : FVec F S10000x10000 .f32 := addf main_v7 main_v8
  let main_v10 : FVec F S2x10000 .f32 := (transpose S2x10000 [1, 0] · transposes_S10000x2_S2x10000_1_0) main_v2
  let main_v11 : FVec F S10000x10000 .f32 := (fun l r => Host.dotGeneral dot_S10000x2_S2x10000_S10000x10000_1_0_0_1_n_n none l r) main_v2 main_v10
  let main_cst_0 : FVec F S_ .f32 := constant S_ .f32 0x40000000#32
  let main_v12 : FVec F S10000x10000 .f32 := broadcastInDim S10000x10000 ![] bcast_S_S10000x10000 main_cst_0
  let main_v13 : FVec F S10000x10000 .f32 := mulf main_v12 main_v11
  let main_v14 : FVec F S10000x10000 .f32 := subf main_v9 main_v13
  let main_v15 : FVec F S10000x10000 .f32 := Host.negf main_v14
  let main_values : FVec F S10000x31 .f32 := (fun x => (Host.topK S10000x31 1 (FloatOps.cmpfTotal .gt) x sliceFits_S10000x10000_S10000x31).1) main_v15
  let main_indices : IVec S10000x31 32 := (fun x => (Host.topK S10000x31 1 (FloatOps.cmpfTotal .gt) x sliceFits_S10000x10000_S10000x31).2) main_v15
  let main_v16 : FVec F S10000x1 .f32 := (extractStridedSlice S10000x1 ![0, 29] · slices_S10000x31_S10000x1_0_29) main_values
  let main_v17 : FVec F S10000 .f32 := shapeCast S10000 main_v16 shapeCasts_S10000x1_S10000
  let main_v18 : FVec F S10000 .f32 := Host.negf main_v17
  let main_v19 : FVec F S10000x1 .f32 := (extractStridedSlice S10000x1 ![0, 30] · slices_S10000x31_S10000x1_0_30) main_values
  fn_part1 (F := F) main_arg0 main_arg1 main_arg2 main_arg3 main_arg4 main_arg5 main_arg6 main_v4 main_v18 main_v19
-- ==== Kernel.lean ====
abbrev S10000 : Shape := ⟨1, ![10000]⟩
abbrev S1 : Shape := ⟨1, ![1]⟩
abbrev S_ : Shape := ⟨0, ![]⟩
abbrev S2x100 : Shape := ⟨2, ![2, 100]⟩
abbrev S100 : Shape := ⟨1, ![100]⟩
abbrev S100x3 : Shape := ⟨2, ![100, 3]⟩
abbrev S3 : Shape := ⟨1, ![3]⟩
abbrev S6 : Shape := ⟨1, ![6]⟩
abbrev S10000x1 : Shape := ⟨2, ![10000, 1]⟩
abbrev S1x10000 : Shape := ⟨2, ![1, 10000]⟩
abbrev S1x100 : Shape := ⟨2, ![1, 100]⟩
abbrev S3x100 : Shape := ⟨2, ![3, 100]⟩
abbrev S1x1 : Shape := ⟨2, ![1, 1]⟩
abbrev S200x1 : Shape := ⟨2, ![200, 1]⟩
abbrev S200x100 : Shape := ⟨2, ![200, 100]⟩
abbrev S200 : Shape := ⟨1, ![200]⟩
abbrev S200x10000 : Shape := ⟨2, ![200, 10000]⟩

abbrev nBuf : Space → Nat
  | .hbm => 29
  | .vmem => 26
  | .smem => 1
  | _ => 0

abbrev bufTy : (tb : Table) → Fin (tcTables nBuf tb) → BufTy
  | .hbm, ⟨0, _⟩ => ⟨S10000, .f32⟩
  | .hbm, ⟨1, _⟩ => ⟨S10000, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S10000, .f32⟩
  | .hbm, ⟨6, _⟩ => ⟨S10000, .f32⟩
  | .hbm, ⟨7, _⟩ => ⟨S_, .i32⟩
  | .hbm, ⟨8, _⟩ => ⟨S2x100, .f32⟩
  | .hbm, ⟨9, _⟩ => ⟨S100, .f32⟩
  | .hbm, ⟨10, _⟩ => ⟨S100x3, .f32⟩
  | .hbm, ⟨11, _⟩ => ⟨S3, .f32⟩
  | .hbm, ⟨12, _⟩ => ⟨S6, .f32⟩
  | .hbm, ⟨13, _⟩ => ⟨S10000x1, .f32⟩
  | .hbm, ⟨14, _⟩ => ⟨S10000x1, .f32⟩
  | .hbm, ⟨15, _⟩ => ⟨S10000x1, .f32⟩
  | .hbm, ⟨16, _⟩ => ⟨S10000x1, .f32⟩
  | .hbm, ⟨17, _⟩ => ⟨S1x10000, .f32⟩
  | .hbm, ⟨18, _⟩ => ⟨S1x10000, .f32⟩
  | .hbm, ⟨19, _⟩ => ⟨S1x10000, .f32⟩
  | .hbm, ⟨20, _⟩ => ⟨S1x10000, .f32⟩
  | .hbm, ⟨21, _⟩ => ⟨S1x100, .f32⟩
  | .hbm, ⟨22, _⟩ => ⟨S3x100, .f32⟩
  | .hbm, ⟨23, _⟩ => ⟨S1x1, .f32⟩
  | .hbm, ⟨24, _⟩ => ⟨S10000x1, .f32⟩
  | .hbm, ⟨25, _⟩ => ⟨S10000x1, .f32⟩
  | .hbm, ⟨26, _⟩ => ⟨S10000x1, .f32⟩
  | .hbm, ⟨27, _⟩ => ⟨S10000x1, .f32⟩
  | .hbm, ⟨28, _⟩ => ⟨S10000x1, .f32⟩
  | .local _ .vmem, ⟨0, _⟩ => ⟨S200x1, .f32⟩
  | .local _ .vmem, ⟨1, _⟩ => ⟨S200x1, .f32⟩
  | .local _ .vmem, ⟨2, _⟩ => ⟨S200x1, .f32⟩
  | .local _ .vmem, ⟨3, _⟩ => ⟨S200x1, .f32⟩
  | .local _ .vmem, ⟨4, _⟩ => ⟨S200x1, .f32⟩
  | .local _ .vmem, ⟨5, _⟩ => ⟨S200x1, .f32⟩
  | .local _ .vmem, ⟨6, _⟩ => ⟨S200x1, .f32⟩
  | .local _ .vmem, ⟨7, _⟩ => ⟨S200x1, .f32⟩
  | .local _ .vmem, ⟨8, _⟩ => ⟨S1x10000, .f32⟩
  | .local _ .vmem, ⟨9, _⟩ => ⟨S1x10000, .f32⟩
  | .local _ .vmem, ⟨10, _⟩ => ⟨S1x10000, .f32⟩
  | .local _ .vmem, ⟨11, _⟩ => ⟨S1x10000, .f32⟩
  | .local _ .vmem, ⟨12, _⟩ => ⟨S2x100, .f32⟩
  | .local _ .vmem, ⟨13, _⟩ => ⟨S1x100, .f32⟩
  | .local _ .vmem, ⟨14, _⟩ => ⟨S3x100, .f32⟩
  | .local _ .vmem, ⟨15, _⟩ => ⟨S1x1, .f32⟩
  | .local _ .vmem, ⟨16, _⟩ => ⟨S200x1, .f32⟩
  | .local _ .vmem, ⟨17, _⟩ => ⟨S200x1, .f32⟩
  | .local _ .vmem, ⟨18, _⟩ => ⟨S200x1, .f32⟩
  | .local _ .vmem, ⟨19, _⟩ => ⟨S200x1, .f32⟩
  | .local _ .vmem, ⟨20, _⟩ => ⟨S200x1, .f32⟩
  | .local _ .vmem, ⟨21, _⟩ => ⟨S200x1, .f32⟩
  | .local _ .vmem, ⟨22, _⟩ => ⟨S200x1, .f32⟩
  | .local _ .vmem, ⟨23, _⟩ => ⟨S200x1, .f32⟩
  | .local _ .vmem, ⟨24, _⟩ => ⟨S200x1, .f32⟩
  | .local _ .vmem, ⟨25, _⟩ => ⟨S200x1, .f32⟩
  | .local _ .smem, ⟨0, _⟩ => ⟨S6, .f32⟩
  | _, _ => ⟨S10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x10000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x100 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x100 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S200x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S200x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S200x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S200x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S200x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "inv_n" => some ((1 / 10000 : ℝ) : EReal)
  | _ => none
-- ==== ReferenceIdeal.lean ====
abbrev S10000 : Shape := ⟨1, ![10000]⟩
abbrev S1 : Shape := ⟨1, ![1]⟩
abbrev S_ : Shape := ⟨0, ![]⟩
abbrev S2x100 : Shape := ⟨2, ![2, 100]⟩
abbrev S100 : Shape := ⟨1, ![100]⟩
abbrev S100x3 : Shape := ⟨2, ![100, 3]⟩
abbrev S3 : Shape := ⟨1, ![3]⟩
abbrev S10000x1 : Shape := ⟨2, ![10000, 1]⟩
abbrev S10000x2 : Shape := ⟨2, ![10000, 2]⟩
abbrev S1x10000 : Shape := ⟨2, ![1, 10000]⟩
abbrev S10000x10000 : Shape := ⟨2, ![10000, 10000]⟩
abbrev S2x10000 : Shape := ⟨2, ![2, 10000]⟩
abbrev S10000x30 : Shape := ⟨2, ![10000, 30]⟩
abbrev S10000x100 : Shape := ⟨2, ![10000, 100]⟩
abbrev S1x100 : Shape := ⟨2, ![1, 100]⟩
abbrev S10000x3 : Shape := ⟨2, ![10000, 3]⟩
abbrev S1x3 : Shape := ⟨2, ![1, 3]⟩
abbrev S30x10000 : Shape := ⟨2, ![30, 10000]⟩
abbrev S29x10000 : Shape := ⟨2, ![29, 10000]⟩
abbrev S29x10000x1 : Shape := ⟨3, ![29, 10000, 1]⟩
abbrev S1x1 : Shape := ⟨2, ![1, 1]⟩

abbrev nBuf : Space → Nat
  | .hbm => 163
  | .vmem => 0
  | .smem => 0
  | _ => 0

abbrev hbmTy0_0 (i : Nat) : BufTy := match i % 128 with
  | 0 => ⟨S10000, .f32⟩
  | 1 => ⟨S10000, .f32⟩
  | 2 => ⟨S1, .f32⟩
  | 3 => ⟨S1, .f32⟩
  | 4 => ⟨S1, .f32⟩
  | 5 => ⟨S10000, .f32⟩
  | 6 => ⟨S10000, .f32⟩
  | 7 => ⟨S_, .i32⟩
  | 8 => ⟨S2x100, .f32⟩
  | 9 => ⟨S100, .f32⟩
  | 10 => ⟨S100x3, .f32⟩
  | 11 => ⟨S3, .f32⟩
  | 12 => ⟨S10000x1, .f32⟩
  | 13 => ⟨S10000x1, .f32⟩
  | 14 => ⟨S10000x2, .f32⟩
  | 15 => ⟨S10000x2, .f32⟩
  | 16 => ⟨S_, .f32⟩
  | 17 => ⟨S10000, .f32⟩
  | 18 => ⟨S10000x1, .f32⟩
  | 19 => ⟨S1x10000, .f32⟩
  | 20 => ⟨S10000x10000, .f32⟩
  | 21 => ⟨S10000x10000, .f32⟩
  | 22 => ⟨S10000x10000, .f32⟩
  | 23 => ⟨S2x10000, .f32⟩
  | 24 => ⟨S10000x10000, .f32⟩
  | 25 => ⟨S_, .f32⟩
  | 26 => ⟨S10000x10000, .f32⟩
  | 27 => ⟨S10000x10000, .f32⟩
  | 28 => ⟨S10000x10000, .f32⟩
  | 29 => ⟨S10000x10000, .f32⟩
  | 30 => ⟨S10000x30, .f32⟩
  | 31 => ⟨S10000x30, .i32⟩
  | 32 => ⟨S10000x1, .f32⟩
  | 33 => ⟨S10000x1, .f32⟩
  | 34 => ⟨S10000x2, .f32⟩
  | 35 => ⟨S10000x100, .f32⟩
  | 36 => ⟨S1x100, .f32⟩
  | 37 => ⟨S10000x100, .f32⟩
  | 38 => ⟨S10000x100, .f32⟩
  | 39 => ⟨S_, .f32⟩
  | 40 => ⟨S10000x100, .f32⟩
  | 41 => ⟨S10000x100, .f32⟩
  | 42 => ⟨S10000x3, .f32⟩
  | 43 => ⟨S1x3, .f32⟩
  | 44 => ⟨S10000x3, .f32⟩
  | 45 => ⟨S10000x3, .f32⟩
  | 46 => ⟨S10000x3, .f32⟩
  | 47 => ⟨S10000x3, .f32⟩
  | 48 => ⟨S_, .f32⟩
  | 49 => ⟨S10000x3, .f32⟩
  | 50 => ⟨S10000x3, .f32⟩
  | 51 => ⟨S_, .f32⟩
  | 52 => ⟨S10000x3, .f32⟩
  | 53 => ⟨S10000x3, .f32⟩
  | 54 => ⟨S10000x1, .f32⟩
  | 55 => ⟨S10000, .f32⟩
  | 56 => ⟨S_, .f32⟩
  | 57 => ⟨S10000, .f32⟩
  | 58 => ⟨S10000, .f32⟩
  | 59 => ⟨S10000x1, .f32⟩
  | 60 => ⟨S10000, .f32⟩
  | 61 => ⟨S_, .f32⟩
  | 62 => ⟨S10000, .f32⟩
  | 63 => ⟨S10000, .f32⟩
  | 64 => ⟨S10000x1, .f32⟩
  | 65 => ⟨S10000, .f32⟩
  | 66 => ⟨S_, .f32⟩
  | 67 => ⟨S10000, .f32⟩
  | 68 => ⟨S10000, .f32⟩
  | 69 => ⟨S10000, .f32⟩
  | 70 => ⟨S10000, .f32⟩
  | 71 => ⟨S_, .f32⟩
  | 72 => ⟨S10000, .f32⟩
  | 73 => ⟨S10000, .f32⟩
  | 74 => ⟨S10000, .f32⟩
  | 75 => ⟨S10000, .f32⟩
  | 76 => ⟨S10000, .f32⟩
  | 77 => ⟨S10000, .f32⟩
  | 78 => ⟨S_, .f32⟩
  | 79 => ⟨S10000, .f32⟩
  | 80 => ⟨S10000, .f32⟩
  | 81 => ⟨S10000, .f32⟩
  | 82 => ⟨S10000, .f32⟩
  | 83 => ⟨S10000, .f32⟩
  | 84 => ⟨S30x10000, .i32⟩
  | 85 => ⟨S29x10000, .i32⟩
  | 86 => ⟨S_, .i32⟩
  | 87 => ⟨S29x10000, .i32⟩
  | 88 => ⟨S29x10000, .i1⟩
  | 89 => ⟨S_, .i32⟩
  | 90 => ⟨S29x10000, .i32⟩
  | 91 => ⟨S29x10000, .i32⟩
  | 92 => ⟨S29x10000, .i32⟩
  | 93 => ⟨S29x10000x1, .i32⟩
  | 94 => ⟨S29x10000, .f32⟩
  | 95 => ⟨S1x10000, .f32⟩
  | 96 => ⟨S29x10000, .f32⟩
  | 97 => ⟨S29x10000, .f32⟩
  | 98 => ⟨S_, .i32⟩
  | 99 => ⟨S29x10000, .i32⟩
  | 100 => ⟨S29x10000, .i1⟩
  | 101 => ⟨S_, .i32⟩
  | 102 => ⟨S29x10000, .i32⟩
  | 103 => ⟨S29x10000, .i32⟩
  | 104 => ⟨S29x10000, .i32⟩
  | 105 => ⟨S29x10000x1, .i32⟩
  | 106 => ⟨S29x10000, .f32⟩
  | 107 => ⟨S1x10000, .f32⟩
  | 108 => ⟨S29x10000, .f32⟩
  | 109 => ⟨S29x10000, .f32⟩
  | 110 => ⟨S29x10000, .f32⟩
  | 111 => ⟨S29x10000, .f32⟩
  | 112 => ⟨S29x10000, .f32⟩
  | 113 => ⟨S10000, .f32⟩
  | 114 => ⟨S10000, .f32⟩
  | 115 => ⟨S10000, .f32⟩
  | 116 => ⟨S_, .f32⟩
  | 117 => ⟨S29x10000, .f32⟩
  | 118 => ⟨S29x10000, .f32⟩
  | 119 => ⟨S29x10000, .f32⟩
  | 120 => ⟨S_, .f32⟩
  | 121 => ⟨S10000, .f32⟩
  | 122 => ⟨S10000, .f32⟩
  | 123 => ⟨S10000, .f32⟩
  | 124 => ⟨S1x10000, .f32⟩
  | 125 => ⟨S29x10000, .f32⟩
  | 126 => ⟨S29x10000, .f32⟩
  | 127 => ⟨S_, .f32⟩
  | _ => ⟨S10000, .f32⟩

abbrev hbmTy0_1 (i : Nat) : BufTy := match i % 128 with
  | 0 => ⟨S29x10000, .f32⟩
  | 1 => ⟨S29x10000, .i1⟩
  | 2 => ⟨S_, .f32⟩
  | 3 => ⟨S10000, .f32⟩
  | 4 => ⟨S10000, .i1⟩
  | 5 => ⟨S1x10000, .i1⟩
  | 6 => ⟨S29x10000, .i1⟩
  | 7 => ⟨S29x10000, .i1⟩
  | 8 => ⟨S1x10000, .f32⟩
  | 9 => ⟨S29x10000, .f32⟩
  | 10 => ⟨S29x10000, .f32⟩
  | 11 => ⟨S1x10000, .f32⟩
  | 12 => ⟨S29x10000, .f32⟩
  | 13 => ⟨S29x10000, .f32⟩
  | 14 => ⟨S29x10000, .f32⟩
  | 15 => ⟨S29x10000, .f32⟩
  | 16 => ⟨S_, .f32⟩
  | 17 => ⟨S_, .f32⟩
  | 18 => ⟨S29x10000, .f32⟩
  | 19 => ⟨S29x10000, .f32⟩
  | 20 => ⟨S_, .f32⟩
  | 21 => ⟨S10000, .f32⟩
  | 22 => ⟨S_, .f32⟩
  | 23 => ⟨S10000, .f32⟩
  | 24 => ⟨S10000, .f32⟩
  | 25 => ⟨S_, .f32⟩
  | 26 => ⟨S_, .f32⟩
  | 27 => ⟨S_, .f32⟩
  | 28 => ⟨S_, .f32⟩
  | 29 => ⟨S1x1, .f32⟩
  | 30 => ⟨S10000x1, .f32⟩
  | 31 => ⟨S10000x1, .f32⟩
  | 32 => ⟨S10000x1, .f32⟩
  | 33 => ⟨S10000x1, .f32⟩
  | 34 => ⟨S10000x1, .f32⟩
  | _ => ⟨S10000, .f32⟩

abbrev hbmTy (i : Nat) : BufTy := match i / 128 with
  | 0 => hbmTy0_0 i
  | 1 => hbmTy0_1 i
  | _ => ⟨S10000, .f32⟩

abbrev bufTy : (tb : Table) → Fin (tcTables nBuf tb) → BufTy
  | .hbm, ⟨i, _⟩ => hbmTy i
  | _, _ => ⟨S10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_values : Ref sig .tc := ⟨.hbm, 30, rfl⟩
abbrev main_indices : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_4 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_5 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c : Ref sig .tc := ⟨.hbm, 86, rfl⟩
abbrev main_v65 : Ref sig .tc := ⟨.hbm, 87, rfl⟩
abbrev main_v66 : Ref sig .tc := ⟨.hbm, 88, rfl⟩
abbrev main_c_6 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_7 : Ref sig .tc := ⟨.hbm, 98, rfl⟩
abbrev main_v75 : Ref sig .tc := ⟨.hbm, 99, rfl⟩
abbrev main_v76 : Ref sig .tc := ⟨.hbm, 100, rfl⟩
abbrev main_c_8 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_9 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_10 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_11 : Ref sig .tc := ⟨.hbm, 127, rfl⟩
abbrev main_v100 : Ref sig .tc := ⟨.hbm, 128, rfl⟩
abbrev main_v101 : Ref sig .tc := ⟨.hbm, 129, rfl⟩
abbrev main_cst_12 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_13 : Ref sig .tc := ⟨.hbm, 144, rfl⟩
abbrev main_call0_v0 : Ref sig .tc := ⟨.hbm, 145, rfl⟩
abbrev main_call0_v1 : Ref sig .tc := ⟨.hbm, 146, rfl⟩
abbrev main_v115 : Ref sig .tc := ⟨.hbm, 147, rfl⟩
abbrev main_cst_14 : Ref sig .tc := ⟨.hbm, 148, rfl⟩
abbrev main_v116 : Ref sig .tc := ⟨.hbm, 149, rfl⟩
abbrev main_cst_15 : Ref sig .tc := ⟨.hbm, 150, rfl⟩
abbrev main_v117 : Ref sig .tc := ⟨.hbm, 151, rfl⟩
abbrev main_v118 : Ref sig .tc := ⟨.hbm, 152, rfl⟩
abbrev main_cst_16 : Ref sig .tc := ⟨.hbm, 153, rfl⟩
abbrev main_v119 : Ref sig .tc := ⟨.hbm, 154, rfl⟩
abbrev main_cst_17 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩

abbrev nD : Nat := 1
abbrev τ : Topo := Topo.v7x

variable {F : FTy → Type} [FloatOps F]
-- ==== Proof.Steps.lean ====
/- The body's twelve bisection steps as one vector-level step function.

   The printed body is cut into parts, so a payload of a part sees the values that the part before left. Each
   theorem here says that the values that a part leaves are those of the state after so many steps. -/
module

public import proofs.«01_k».proof.Proof.Gen.KernelIdeal.Skeleton

@[expose] public section

noncomputable section

namespace Cert.KernelIdeal.Steps

open Cert.KernelIdeal Cert.KernelIdeal.Gen Idealize.ShloMosaic Idealize.ShloMosaic.TcCoe Idealize.SL.Sem

variable {F : FTy → Type} [FloatOps F] [Named F]

/-- The bisection's state for the 200 rows of a block: the bracket, the threshold found and whether it was found. -/
structure St (F : FTy → Type) where
  lo : FVec F S200x1 .f32
  hi : FVec F S200x1 .f32
  t : FVec F S200x1 .f32
  done : IVec S200x1 1

/-- The state before the first step: the bracket is the row's minimum and the upper bound. -/
def start (t0 hi0 : FVec F S200x1 .f32) : St F := ⟨t0, hi0, t0, broadcast S200x1 0#1⟩

/-- The geometric middle of the bracket, its lower end raised to a billionth of the upper one. -/
def mid (s : St F) : FVec F S200x1 .f32 :=
  sqrt (mulf (maximumf s.lo (mulf s.hi (broadcast S200x1 (Scalar.ofBits .f32 0x3089705F#32)))) s.hi)

/-- How many of a row's squared distances are at most the middle. -/
def cnt (d : FVec F S200x10000 .f32) (x : FVec F S200x1 .f32) : FVec F S200x1 .f32 :=
  shapeCast S200x1 (multiReduction .add [1] S200 (select (cmpf .ole d (broadcastTo S200x10000 x broadcasts_S200x1_S200x10000))
    (broadcast S200x10000 (Scalar.ofBits .f32 0x3F800000#32)) (broadcast S200x10000 (Scalar.ofBits .f32 0x00000000#32)))
    0x00000000#32 reduces_S200x10000_S200 (.inl rfl) rfl) shapeCasts_S200_S200x1

/-- The count is thirty and no threshold was found before. -/
def hit (d : FVec F S200x10000 .f32) (s : St F) : IVec S200x1 1 :=
  andi (cmpf .oeq (cnt d (mid s)) (broadcast S200x1 (Scalar.ofBits .f32 0x41F00000#32))) (xori s.done (constantI S200x1 1 1#1))

/-- The count is below thirty. -/
def below (d : FVec F S200x10000 .f32) (s : St F) : IVec S200x1 1 :=
  cmpf .olt (cnt d (mid s)) (broadcast S200x1 (Scalar.ofBits .f32 0x41F00000#32))

/-- One step. -/
def step (d : FVec F S200x10000 .f32) (s : St F) : St F where
  lo := select (ori (ori s.done (hit d s)) (xori (below d s) (constantI S200x1 1 1#1))) s.lo (mid s)
  hi := select (ori (ori s.done (hit d s)) (below d s)) s.hi (mid s)
  t := select (hit d s) (mid s) s.t
  done := ori s.done (hit d s)

/-- The threshold that a state gives: the one found, or the bracket's upper end. -/
def final (s : St F) : FVec F S200x1 .f32 := select s.done s.t s.hi

/-- The threshold of the twelve steps, from the block's distances, the rows' least ones and the upper bounds. -/
def t30 (d : FVec F S200x10000 .f32) (t0 hi0 : FVec F S200x1 .f32) : FVec F S200x1 .f32 :=
  final ((step d)^[12] (start t0 hi0))

variable (d : FVec F S200x10000 .f32) (s : St F)

/-- The selection whose sum is the count. -/
def ones (x : FVec F S200x1 .f32) : FVec F S200x10000 .f32 :=
  select (cmpf .ole d (broadcastTo S200x10000 x broadcasts_S200x1_S200x10000))
    (broadcast S200x10000 (Scalar.ofBits .f32 0x3F800000#32)) (broadcast S200x10000 (Scalar.ofBits .f32 0x00000000#32))

/-- The printed constant thirty. -/
def thirty : FVec F S200x1 .f32 := broadcast S200x1 (Scalar.ofBits .f32 0x41F00000#32)

/-- The first cut: one step is done and the second one has found its middle, its count and its flag. -/
theorem cut1 (t0 hi0 : FVec F S200x1 .f32) :
    k0_pay28 d t0 hi0 0#1 = (step d (start t0 hi0)).lo ∧ k0_pay29 d t0 hi0 0#1 = (step d (start t0 hi0)).hi
    ∧ k0_pay30 d t0 hi0 0#1 = mid (step d (start t0 hi0)) ∧ k0_pay31 d t0 hi0 0#1 = cnt d (mid (step d (start t0 hi0)))
    ∧ k0_pay33 d t0 hi0 0#1 = (step d (step d (start t0 hi0))).t
    ∧ k0_pay34 d t0 hi0 0#1 = (step d (step d (start t0 hi0))).done :=
  ⟨rfl, rfl, rfl, rfl, rfl, rfl⟩

/-- The second cut, from any state: two more steps, and the third has its middle, its count and its comparison. -/
theorem cut2 :
    k0_pay42 d s.lo s.hi (mid s) (cnt d (mid s)) (step d s).t (step d s).done thirty = (step d (step d s)).t
    ∧ k0_pay43 d s.lo s.hi (mid s) (cnt d (mid s)) (step d s).done thirty = (step d (step d s)).done
    ∧ k0_pay45 d s.lo s.hi (mid s) (cnt d (mid s)) (step d s).done thirty = (step d (step d s)).lo
    ∧ k0_pay46 d s.lo s.hi (mid s) (cnt d (mid s)) (step d s).done thirty = (step d (step d s)).hi
    ∧ k0_pay47 d s.lo s.hi (mid s) (cnt d (mid s)) (step d s).done thirty = mid (step d (step d s))
    ∧ k0_pay48 d s.lo s.hi (mid s) (cnt d (mid s)) (step d s).done thirty = cnt d (mid (step d (step d s)))
    ∧ k0_pay49 d s.lo s.hi (mid s) (cnt d (mid s)) (step d s).done thirty
        = cmpf .oeq (cnt d (mid (step d (step d s)))) thirty :=
  ⟨rfl, rfl, rfl, rfl, rfl, rfl, rfl⟩

/-- The third cut: two more steps, and the next has its middle and its selection. -/
theorem cut3 :
    k0_pay58 d s.t s.done s.lo s.hi (mid s) (cnt d (mid s)) (cmpf .oeq (cnt d (mid s)) thirty) (constantI S200x1 1 1#1) = (step d (step d s)).t
    ∧ k0_pay59 d s.done s.lo s.hi (mid s) (cnt d (mid s)) (cmpf .oeq (cnt d (mid s)) thirty) (constantI S200x1 1 1#1) = (step d (step d s)).done
    ∧ k0_pay61 d s.done s.lo s.hi (mid s) (cnt d (mid s)) (cmpf .oeq (cnt d (mid s)) thirty) (constantI S200x1 1 1#1) = (step d (step d s)).lo
    ∧ k0_pay62 d s.done s.lo s.hi (mid s) (cnt d (mid s)) (cmpf .oeq (cnt d (mid s)) thirty) (constantI S200x1 1 1#1) = (step d (step d s)).hi
    ∧ k0_pay63 d s.done s.lo s.hi (mid s) (cnt d (mid s)) (cmpf .oeq (cnt d (mid s)) thirty) (constantI S200x1 1 1#1) = mid (step d (step d s))
    ∧ k0_pay64 d s.done s.lo s.hi (mid s) (cnt d (mid s)) (cmpf .oeq (cnt d (mid s)) thirty) (constantI S200x1 1 1#1)
        = ones d (mid (step d (step d s))) :=
  ⟨rfl, rfl, rfl, rfl, rfl, rfl⟩

/-- The fourth cut: two more steps, and the next has its middle and its comparison of the distances. -/
theorem cut4 :
    k0_pay74 d s.t s.done s.lo s.hi (mid s) (ones d (mid s)) = (step d (step d s)).t
    ∧ k0_pay75 d s.done s.lo s.hi (mid s) (ones d (mid s)) = (step d (step d s)).done
    ∧ k0_pay77 d s.done s.lo s.hi (mid s) (ones d (mid s)) = (step d (step d s)).lo
    ∧ k0_pay78 d s.done s.lo s.hi (mid s) (ones d (mid s)) = (step d (step d s)).hi
    ∧ k0_pay79 d s.done s.lo s.hi (mid s) (ones d (mid s)) = mid (step d (step d s))
    ∧ k0_pay80 d s.done s.lo s.hi (mid s) (ones d (mid s))
        = cmpf .ole d (broadcastTo S200x10000 (mid (step d (step d s))) broadcasts_S200x1_S200x10000) :=
  ⟨rfl, rfl, rfl, rfl, rfl, rfl⟩

/-- The fifth cut: two more steps. -/
theorem cut5 :
    k0_pay90 d s.t s.done s.lo s.hi (mid s) (cmpf .ole d (broadcastTo S200x10000 (mid s) broadcasts_S200x1_S200x10000)) = (step d (step d s)).t
    ∧ k0_pay91 d s.done s.lo s.hi (mid s) (cmpf .ole d (broadcastTo S200x10000 (mid s) broadcasts_S200x1_S200x10000)) = (step d (step d s)).done
    ∧ k0_pay93 d s.done s.lo s.hi (mid s) (cmpf .ole d (broadcastTo S200x10000 (mid s) broadcasts_S200x1_S200x10000)) = (step d (step d s)).lo
    ∧ k0_pay94 d s.done s.lo s.hi (mid s) (cmpf .ole d (broadcastTo S200x10000 (mid s) broadcasts_S200x1_S200x10000)) = (step d (step d s)).hi :=
  ⟨rfl, rfl, rfl, rfl⟩

/-- The last cut: from a state, the three steps that are left and the threshold of the state after them. -/
theorem cut6 :
    k0_pay110 d (k0_pay101 d s.done s.lo s.hi k0_pay95) (k0_pay102 d s.done s.lo s.hi k0_pay95) (k0_pay103 d s.done s.lo s.hi k0_pay95)
      (k0_pay106 d s.t s.done s.lo s.hi k0_pay95) (k0_pay107 d s.done s.lo s.hi k0_pay95) (k0_pay108 d s.done s.lo s.hi k0_pay95)
      (k0_pay109 d s.done s.lo s.hi k0_pay95) = final (step d (step d (step d s))) :=
  rfl

/-- The printed constant of a later part is the same thirty. -/
theorem pay35 : k0_pay35 (F := F) = thirty := rfl

/-- The threshold, its twelve steps written out. -/
theorem t30_steps (t0 hi0 : FVec F S200x1 .f32) : t30 d t0 hi0 = final (step d (step d (step d (step d (step d (step d
    (step d (step d (step d (step d (step d (step d (start t0 hi0))))))))))))) := rfl

end Cert.KernelIdeal.Steps
-- ==== Proof.Blocks.lean ====
/- What the body leaves in the six result blocks at a grid point, as vector functions of its twelve input blocks. -/
module

public import proofs.«01_k».proof.Proof.Gen.KernelIdeal.Value
public import proofs.«01_k».proof.Proof.Steps
public import Idealize.ShloMosaic.Lib.Tactic

@[expose] public section

set_option maxHeartbeats 4000000

noncomputable section

namespace Cert.KernelIdeal.Blocks

open Cert.KernelIdeal Cert.KernelIdeal.Gen Idealize.ShloMosaic Idealize.ShloMosaic.TcCoe Idealize.SL.Sem

variable {F : FTy → Type} [FloatOps F] [Named F]

/-- The twelve input blocks of a grid point. -/
structure Ins (F : FTy → Type) where
  uc : Vec F S200x1 .f32
  sc : Vec F S200x1 .f32
  e1c : Vec F S200x1 .f32
  e2c : Vec F S200x1 .f32
  ur : Vec F S1x10000 .f32
  sr : Vec F S1x10000 .f32
  e1r : Vec F S1x10000 .f32
  e2r : Vec F S1x10000 .f32
  par : Vec F S6 .f32
  w1 : Vec F S2x100 .f32
  b1 : Vec F S1x100 .f32
  w2 : Vec F S3x100 .f32

variable (x : Ins F)

/-- The block of the network's hidden layer. -/
def hid : FVec F S200x100 .f32 :=
  k0_pay8 x.uc x.sc (View.ld x.w1 (Rect.unit ![0, 0] ![1, 100] inb_S2x100_S1x100_0_0))
    (View.ld x.w1 (Rect.unit ![1, 0] ![1, 100] inb_S2x100_S1x100_1_0)) x.b1

/-- The block of the first output before the logistic function. -/
def pre : FVec F S200x1 .f32 :=
  k0_pay9 x.uc x.sc (View.ld x.w1 (Rect.unit ![0, 0] ![1, 100] inb_S2x100_S1x100_0_0))
    (View.ld x.w1 (Rect.unit ![1, 0] ![1, 100] inb_S2x100_S1x100_1_0)) x.b1
    (View.ld x.w2 (Rect.unit ![0, 0] ![1, 100] inb_S3x100_S1x100_0_0))
    (View.ld x.par (Rect.unit ![3] ![1] inb_S6_S1_3) (Shape.Idx.first (by decide)))

/-- Row `n` of the second layer's weights, for the second and third output. -/
def w21 : Vec F S1x100 .f32 := View.ld x.w2 (Rect.unit ![1, 0] ![1, 100] inb_S3x100_S1x100_1_0)
def w22 : Vec F S1x100 .f32 := View.ld x.w2 (Rect.unit ![2, 0] ![1, 100] inb_S3x100_S1x100_2_0)
/-- The six scalar parameters: three factors and three biases. -/
def p0 : Elt F .f32 := View.ld x.par (Rect.unit ![0] ![1] inb_S6_S1_0) (Shape.Idx.first (by decide))
def p1 : Elt F .f32 := View.ld x.par (Rect.unit ![1] ![1] inb_S6_S1_1) (Shape.Idx.first (by decide))
def p2 : Elt F .f32 := View.ld x.par (Rect.unit ![2] ![1] inb_S6_S1_2) (Shape.Idx.first (by decide))
def p4 : Elt F .f32 := View.ld x.par (Rect.unit ![4] ![1] inb_S6_S1_4) (Shape.Idx.first (by decide))
def p5 : Elt F .f32 := View.ld x.par (Rect.unit ![5] ![1] inb_S6_S1_5) (Shape.Idx.first (by decide))

/-- The blocks of the rates and of the two velocities. -/
def al : FVec F S200x1 .f32 := k0_pay10 (pre x) (p0 x)
def be : FVec F S200x1 .f32 := k0_pay11 (hid x) (w21 x) (p4 x) (p1 x)
def ga : FVec F S200x1 .f32 := k0_pay12 (hid x) (w22 x) (p5 x) (p2 x)
def uv : FVec F S200x1 .f32 := k0_pay13 (k0_pay2 x.uc) (hid x) (pre x) (w21 x) (p4 x) (p0 x) (p1 x)
def sv : FVec F S200x1 .f32 :=
  k0_pay14 (k0_pay2 x.uc) (k0_pay3 x.sc) (hid x) (w21 x) (p4 x) (w22 x) (p5 x) (p1 x) (p2 x)
def u1 : FVec F S200x1 .f32 := k0_pay15 (k0_pay2 x.uc) (hid x) (pre x) (w21 x) (p4 x) (p0 x) (p1 x)
def s1 : FVec F S200x1 .f32 :=
  k0_pay16 (k0_pay2 x.uc) (k0_pay3 x.sc) (hid x) (w21 x) (p4 x) (w22 x) (p5 x) (p1 x) (p2 x)

/-- The block's squared distances, the rows' least ones and the upper bounds of the bisection. -/
def d2 : FVec F S200x10000 .f32 := k0_pay19 (k0_pay4 x.e1c) (k0_pay5 x.e2c) (k0_pay6 x.e1r) (k0_pay7 x.e2r)
def t0 : FVec F S200x1 .f32 := k0_pay20 (k0_pay4 x.e1c) (k0_pay5 x.e2c) (k0_pay6 x.e1r) (k0_pay7 x.e2r)
def hi0 : FVec F S200x1 .f32 := k0_pay21 (k0_pay4 x.e1c) (k0_pay5 x.e2c) (k0_pay6 x.e1r) (k0_pay7 x.e2r)

/-- The block's part of the cost. -/
def part : FVec F S1x1 .f32 :=
  k0_pay115 (uv x) (sv x) (d2 x) (Steps.t30 (d2 x) (t0 x) (hi0 x)) (iota .tc S200x10000 32 [1] iota_S200x10000_d1_w32)
    (k0_pay111 (d2 x) (t0 x)) (k0_pay112 (k0_pay2 x.uc) x.ur) (k0_pay113 (k0_pay3 x.sc) x.sr)
    (k0_pay114 (k0_pay2 x.uc) (k0_pay3 x.sc) x.ur x.sr)

variable (m : (ℓ : Loc nD τ sig) → Buf (Elt F) ℓ)

/-- The input blocks of point `t`, as the launch finds them. -/
def ins (c : Dev nD) (t : Fin cfg0.N) : Ins F :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t⟩

/-- The zero offset, written either way. -/
theorem hz : (![0, 0] : Fin 2 → Nat) = fun _ => 0 := funext fun a => by fin_cases a <;> rfl

/-- At the first point the cost's block is zero plus the point's part; the other blocks are written whole. -/
theorem outs_A (c : Dev nD) (t : Fin cfg0.N) (h0 : t.val % 50 = 0) :
    outsAt0 m c t.val t.isLt = (k0_pay1 (part (ins m c t)) (k0_pay117 k0_pay116), u1 (ins m c t), s1 (ins m c t),
      al (ins m c t), be (ins m c t), ga (ins m c t)) := by
  rw [outsAt0_A m c t h0]
  refine Prod.ext ?_ (Prod.ext ?_ (Prod.ext ?_ (Prod.ext ?_ (Prod.ext ?_ ?_)))) <;> dsimp only <;>
    [unfold out0_A_12; unfold out0_A_13; unfold out0_A_14; unfold out0_A_15; unfold out0_A_16; unfold out0_A_17] <;>
    [rw [View.read_writes_eq_canon _ _ _ (fun y => cover0_A_12 (y := y) ..)];
     rw [View.read_writes_eq_canon _ _ _ (fun y => cover0_A_13 (y := y) ..)];
     rw [View.read_writes_eq_canon _ _ _ (fun y => cover0_A_14 (y := y) ..)];
     rw [View.read_writes_eq_canon _ _ _ (fun y => cover0_A_15 (y := y) ..)];
     rw [View.read_writes_eq_canon _ _ _ (fun y => cover0_A_16 (y := y) ..)];
     rw [View.read_writes_eq_canon _ _ _ (fun y => cover0_A_17 (y := y) ..)]] <;>
    unfold kernelRun0_A <;> dsimp only <;> sl_unfold_words <;>
    first | rw [View.canon_cons_unit_zero (S := S1x1) hz] | rw [View.canon_unit_zero hz]
  all_goals
    simp only [View.readAt_eq_ld, (hs0_0 t).read_unread, (hs0_1 t).read_unread, (hs0_2 t).read_unread,
      (hs0_3 t).read_unread, (hs0_4 t).read_unread, (hs0_5 t).read_unread, (hs0_6 t).read_unread, (hs0_7 t).read_unread,
      (hs0_8 t).read_unread, (hs0_9 t).read_unread, (hs0_10 t).read_unread, (hs0_11 t).read_unread,
      View.ld_unit_zero (S := S200x1) hz, View.ld_unit_zero (S := S1x100) hz, View.ld_unit_zero (S := S1x10000) hz,
      View.readCov_unit_zero (S := S1x1) _ hz]
  · simp only [Steps.pay35, Steps.cut1, Steps.cut2, Steps.cut3, Steps.cut4, Steps.cut5, Steps.cut6, part, Steps.t30_steps]
    rfl
  all_goals rfl

/-- At a later point the cost's block is what the point before left plus the point's part. -/
theorem outs_B (c : Dev nD) (t : Fin cfg0.N) (h0 : ¬ t.val % 50 = 0) :
    outsAt0 m c t.val t.isLt = (k0_pay1 (part (ins m c t)) (k0_pay117 (outsAt0 m c (t.val - 1) (by omega)).1),
      u1 (ins m c t), s1 (ins m c t), al (ins m c t), be (ins m c t), ga (ins m c t)) := by
  rw [outsAt0_B m c t h0]
  refine Prod.ext ?_ (Prod.ext ?_ (Prod.ext ?_ (Prod.ext ?_ (Prod.ext ?_ ?_)))) <;> dsimp only <;>
    [unfold out0_B_12; unfold out0_B_13; unfold out0_B_14; unfold out0_B_15; unfold out0_B_16; unfold out0_B_17] <;>
    [rw [View.read_writes_eq_canon _ _ _ (fun y => cover0_B_12 (y := y) ..)];
     rw [View.read_writes_eq_canon _ _ _ (fun y => cover0_B_13 (y := y) ..)];
     rw [View.read_writes_eq_canon _ _ _ (fun y => cover0_B_14 (y := y) ..)];
     rw [View.read_writes_eq_canon _ _ _ (fun y => cover0_B_15 (y := y) ..)];
     rw [View.read_writes_eq_canon _ _ _ (fun y => cover0_B_16 (y := y) ..)];
     rw [View.read_writes_eq_canon _ _ _ (fun y => cover0_B_17 (y := y) ..)]] <;>
    unfold kernelRun0_B <;> dsimp only <;> sl_unfold_words <;> rw [View.canon_unit_zero hz]
  all_goals
    simp only [View.readAt_eq_ld, (hs0_0 t).read_unread, (hs0_1 t).read_unread, (hs0_2 t).read_unread,
      (hs0_3 t).read_unread, (hs0_4 t).read_unread, (hs0_5 t).read_unread, (hs0_6 t).read_unread, (hs0_7 t).read_unread,
      (hs0_8 t).read_unread, (hs0_9 t).read_unread, (hs0_10 t).read_unread, (hs0_11 t).read_unread,
      (hs0_12 t).read_unread, View.ld_unit_zero (S := S1x1) hz,
      View.ld_unit_zero (S := S200x1) hz, View.ld_unit_zero (S := S1x100) hz, View.ld_unit_zero (S := S1x10000) hz]
  · simp only [Steps.pay35, Steps.cut1, Steps.cut2, Steps.cut3, Steps.cut4, Steps.cut5, Steps.cut6, part, Steps.t30_steps]
    rfl
  all_goals rfl

end Cert.KernelIdeal.Blocks
-- ==== Proof.Model.lean ====
/- The problem's mathematics on plain functions over the extended reals: the two-layer network, the three rates and
   the extrapolated state. Both programs are read as these functions. -/
module

public import Idealize.ShloMosaic.PureOps.Ideal

@[expose] public section

noncomputable section

namespace Cert.Velo

open Idealize.ShloMosaic

/-- The arguments that the mathematics reads, one function per array. -/
structure Data where
  u : Fin 10000 → EReal
  s : Fin 10000 → EReal
  a : EReal
  b : EReal
  g : EReal
  e1 : Fin 10000 → EReal
  e2 : Fin 10000 → EReal
  w1 : Fin 2 → Fin 100 → EReal
  b1 : Fin 100 → EReal
  w2 : Fin 100 → Fin 3 → EReal
  b2 : Fin 3 → EReal

variable (D : Data)

/-- Unit `k` of the hidden layer at cell `i`. -/
def hid (i : Fin 10000) (k : Fin 100) : EReal := max (D.u i * D.w1 0 k + D.s i * D.w1 1 k + D.b1 k) 0

/-- Output `o` of the network at cell `i`, through the logistic function. -/
def gate (i : Fin 10000) (o : Fin 3) : EReal := Ideal.logistic (∑ k, hid D i k * D.w2 k o + D.b2 o)

/-- The three rates. -/
def al (i : Fin 10000) : EReal := gate D i 0 * D.a
def be (i : Fin 10000) : EReal := gate D i 1 * D.b
def ga (i : Fin 10000) : EReal := gate D i 2 * D.g

/-- The time step, as the programs print it. -/
def half : EReal := Ideal.ofBits .f32 0x3F000000#32

/-- The increments of the two quantities over the time step, and the extrapolated quantities. -/
def du (i : Fin 10000) : EReal := (al D i - be D i * D.u i) * half
def ds (i : Fin 10000) : EReal := (be D i * D.u i - ga D i * D.s i) * half
def u1 (i : Fin 10000) : EReal := D.u i + du D i
def s1 (i : Fin 10000) : EReal := D.s i + ds D i

end Cert.Velo
-- ==== Proof.Bodies.lean ====
/- The blocks of the five cell-wise results, read at a row over the extended reals, are the model at the row's cell. -/
module

public import proofs.«01_k».proof.Proof.Blocks
public import proofs.«01_k».proof.Proof.Model
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

namespace Cert.KernelIdeal.Bodies

open Cert.KernelIdeal Cert.KernelIdeal.Gen Cert.KernelIdeal.Blocks Idealize.ShloMosaic Idealize.ShloMosaic.TcCoe
open Idealize.SL.Sem

variable (m : (ℓ : Loc nD τ sig) → Buf (Elt Ideal) ℓ)

/-- The arguments of a launch as the model's data. -/
def dataOf (c : Dev nD) : Velo.Data where
  u i := m ((c.tc : Thread nD τ).loc main_arg0) (ix1 i)
  s i := m ((c.tc : Thread nD τ).loc main_arg1) (ix1 i)
  a := m ((c.tc : Thread nD τ).loc main_arg2) (ix1 0)
  b := m ((c.tc : Thread nD τ).loc main_arg3) (ix1 0)
  g := m ((c.tc : Thread nD τ).loc main_arg4) (ix1 0)
  e1 i := m ((c.tc : Thread nD τ).loc main_arg5) (ix1 i)
  e2 i := m ((c.tc : Thread nD τ).loc main_arg6) (ix1 i)
  w1 j k := m ((c.tc : Thread nD τ).loc main_arg8) (ix2 j k)
  b1 k := m ((c.tc : Thread nD τ).loc main_arg9) (ix1 k)
  w2 k o := m ((c.tc : Thread nD τ).loc main_arg10) (ix2 k o)
  b2 o := m ((c.tc : Thread nD τ).loc main_arg11) (ix1 o)

/-- The cell that row `r` of point `t` stands for. -/
def cell (t : Fin cfg0.N) (r : Fin 200) : Fin 10000 :=
  ⟨200 * t.val + r.val, by have h : t.val < 50 := lt_of_lt_of_eq t.isLt N_0; have := r.isLt; omega⟩

/-- The index maps: the columns' block is the point, every other window stays at its first block. -/
theorem idx_facts : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![0] ∧ win0_9.index t = ![0, 0] ∧ win0_10.index t = ![0, 0] ∧ win0_11.index t = ![0, 0] :=
  (by decide +kernel : ∀ t : Fin grid0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![0] ∧ win0_9.index t = ![0, 0] ∧ win0_10.index t = ![0, 0] ∧ win0_11.index t = ![0, 0])

variable (c : Dev nD) (t : Fin cfg0.N)

/-! The input blocks at an index are the arguments: a column at the row's cell, everything else where it is read. -/

/-- The first quantity's block at a row is the row's cell. -/
theorem uc_apply (r : Fin 200) : (ins m c t).uc (ix2 r 0) = (dataOf m c).u (cell t r) := by
  show iblk m c 0 t (ix2 r 0) = m ((c.tc : Thread nD τ).loc main_arg0) (ix1 (cell t r))
  blk_ext! [iblk, V, idx_facts t, cell]
/-- The second quantity's block at a row. -/
theorem sc_apply (r : Fin 200) : (ins m c t).sc (ix2 r 0) = (dataOf m c).s (cell t r) := by
  show iblk m c 1 t (ix2 r 0) = m ((c.tc : Thread nD τ).loc main_arg1) (ix1 (cell t r))
  blk_ext! [iblk, V, idx_facts t, cell]
/-- The first coordinate's block at a row. -/
theorem e1c_apply (r : Fin 200) : (ins m c t).e1c (ix2 r 0) = (dataOf m c).e1 (cell t r) := by
  show iblk m c 2 t (ix2 r 0) = m ((c.tc : Thread nD τ).loc main_arg5) (ix1 (cell t r))
  blk_ext! [iblk, V, idx_facts t, cell]
/-- The second coordinate's block at a row. -/
theorem e2c_apply (r : Fin 200) : (ins m c t).e2c (ix2 r 0) = (dataOf m c).e2 (cell t r) := by
  show iblk m c 3 t (ix2 r 0) = m ((c.tc : Thread nD τ).loc main_arg6) (ix1 (cell t r))
  blk_ext! [iblk, V, idx_facts t, cell]
/-- The first quantity as a row, at a cell. -/
theorem ur_apply (k : Fin 10000) : (ins m c t).ur (ix2 0 k) = (dataOf m c).u k := by
  show iblk m c 4 t (ix2 0 k) = m ((c.tc : Thread nD τ).loc main_arg0) (ix1 k)
  blk_ext! [iblk, V, idx_facts t]
/-- The second quantity as a row, at a cell. -/
theorem sr_apply (k : Fin 10000) : (ins m c t).sr (ix2 0 k) = (dataOf m c).s k := by
  show iblk m c 5 t (ix2 0 k) = m ((c.tc : Thread nD τ).loc main_arg1) (ix1 k)
  blk_ext! [iblk, V, idx_facts t]
/-- The first coordinate as a row, at a cell. -/
theorem e1r_apply (k : Fin 10000) : (ins m c t).e1r (ix2 0 k) = (dataOf m c).e1 k := by
  show iblk m c 6 t (ix2 0 k) = m ((c.tc : Thread nD τ).loc main_arg5) (ix1 k)
  blk_ext! [iblk, V, idx_facts t]
/-- The second coordinate as a row, at a cell. -/
theorem e2r_apply (k : Fin 10000) : (ins m c t).e2r (ix2 0 k) = (dataOf m c).e2 k := by
  show iblk m c 7 t (ix2 0 k) = m ((c.tc : Thread nD τ).loc main_arg6) (ix1 k)
  blk_ext! [iblk, V, idx_facts t]
/-- The weights of the hidden layer. -/
theorem w1_apply (j : Fin 2) (k : Fin 100) : (ins m c t).w1 (ix2 j k) = (dataOf m c).w1 j k := by
  show iblk m c 9 t (ix2 j k) = m ((c.tc : Thread nD τ).loc main_arg8) (ix2 j k)
  blk_ext! [iblk, V, idx_facts t]
/-- The biases of the hidden layer. -/
theorem b1_apply (k : Fin 100) : (ins m c t).b1 (ix2 0 k) = (dataOf m c).b1 k := by
  show iblk m c 10 t (ix2 0 k) = m ((c.tc : Thread nD τ).loc main_arg9) (ix1 k)
  blk_ext! [iblk, V, idx_facts t]
/-- The weights of the outputs, which come transposed. -/
theorem w2_apply (o : Fin 3) (k : Fin 100) : (ins m c t).w2 (ix2 o k) = (dataOf m c).w2 k o := by
  show iblk m c 11 t (ix2 o k) = m ((c.tc : Thread nD τ).loc main_arg10) (ix2 k o)
  blk_ext! [iblk, V, idx_facts t]

/-- The six parameters: the three factors, then the three biases of the second layer. -/
theorem par_apply (n : Fin 6) : (ins m c t).par (ix1 n)
    = ![(dataOf m c).a, (dataOf m c).b, (dataOf m c).g, (dataOf m c).b2 0, (dataOf m c).b2 1, (dataOf m c).b2 2] n := by
  show iblk m c 8 t (ix1 n) = _
  have e : (win0_8.blk t).view.emb (ix1 n) = ix1 n := by blk_ext [idx_facts t]
  show V m c main_v0 ((win0_8.blk t).view.emb (ix1 n)) = _
  rw [e]
  unfold V
  fin_cases n <;> after_reads_at <;> rfl

/-! The cell-wise blocks at a row. -/

/-- The hidden layer of a row is its cell's. -/
theorem hid_apply (r : Fin 200) (k : Fin 100) : hid (ins m c t) (ix2 r k) = Velo.hid (dataOf m c) (cell t r) k := by
  unfold hid Velo.hid
  rw [← uc_apply, ← sc_apply, ← w1_apply m c t, ← w1_apply m c t, ← b1_apply m c t]
  pointwise [k0_pay8, k0_pay2, k0_pay3]

/-- The first rate of a row. -/
theorem al_apply (r : Fin 200) : al (ins m c t) (ix2 r 0) = Velo.al (dataOf m c) (cell t r) := by
  have h3 := par_apply m c t 3
  have h0 := par_apply m c t 0
  simp only [Matrix.cons_val] at h3 h0
  unfold Velo.al Velo.gate
  simp only [← hid_apply, ← w2_apply m c t]
  rw [← h3, ← h0]
  unfold al pre p0
  pointwise [k0_pay10, k0_pay9, hid]

/-- The second rate of a row. -/
theorem be_apply (r : Fin 200) : be (ins m c t) (ix2 r 0) = Velo.be (dataOf m c) (cell t r) := by
  have h3 := par_apply m c t 4
  have h0 := par_apply m c t 1
  simp only [Matrix.cons_val] at h3 h0
  unfold Velo.be Velo.gate
  simp only [← hid_apply, ← w2_apply m c t]
  rw [← h3, ← h0]
  unfold be p4 p1 w21
  pointwise [k0_pay11]

/-- The third rate of a row. -/
theorem ga_apply (r : Fin 200) : ga (ins m c t) (ix2 r 0) = Velo.ga (dataOf m c) (cell t r) := by
  have h3 := par_apply m c t 5
  have h0 := par_apply m c t 2
  simp only [Matrix.cons_val] at h3 h0
  unfold Velo.ga Velo.gate
  simp only [← hid_apply, ← w2_apply m c t]
  rw [← h3, ← h0]
  unfold ga p5 p2 w22
  pointwise [k0_pay12]

/-- The increment of the first quantity. -/
theorem uv_apply (r : Fin 200) : uv (ins m c t) (ix2 r 0) = Velo.du (dataOf m c) (cell t r) := by
  unfold Velo.du Velo.half
  rw [← al_apply, ← be_apply, ← uc_apply]
  unfold uv al be
  pointwise [k0_pay13, k0_pay2]

/-- The increment of the second quantity. -/
theorem sv_apply (r : Fin 200) : sv (ins m c t) (ix2 r 0) = Velo.ds (dataOf m c) (cell t r) := by
  unfold Velo.ds Velo.half
  rw [← be_apply, ← ga_apply, ← uc_apply, ← sc_apply]
  unfold sv be ga
  pointwise [k0_pay14, k0_pay2, k0_pay3]

/-- The extrapolated first quantity. -/
theorem u1_apply (r : Fin 200) : u1 (ins m c t) (ix2 r 0) = Velo.u1 (dataOf m c) (cell t r) := by
  unfold Velo.u1
  rw [← uv_apply, ← uc_apply]
  unfold u1 uv
  pointwise [k0_pay15, k0_pay2]

/-- The extrapolated second quantity. -/
theorem s1_apply (r : Fin 200) : s1 (ins m c t) (ix2 r 0) = Velo.s1 (dataOf m c) (cell t r) := by
  unfold Velo.s1
  rw [← sv_apply, ← sc_apply]
  unfold s1 sv
  pointwise [k0_pay16, k0_pay3]

end Cert.KernelIdeal.Bodies
-- ==== Proof.Arrays.lean ====
/- The kernel's result arrays after the run: the cell-wise results are the model's functions, the cost is the sum of
   the points' parts. -/
module

public import proofs.«01_k».proof.Proof.Bodies
public import proofs.«01_k».proof.Proof.Gen.KernelIdeal.Value

@[expose] public section

noncomputable section

namespace Cert.KernelIdeal.Arrays

open Cert.KernelIdeal Cert.KernelIdeal.Gen Cert.KernelIdeal.Blocks Cert.KernelIdeal.Bodies
open Idealize.ShloMosaic Idealize.ShloMosaic.TcCoe Idealize.SL.Sem

variable (m : (ℓ : Loc nD τ sig) → Buf (Elt Ideal) ℓ) (c : Dev nD)

/-- The index maps of the five cell-wise results: the block is the point. -/
theorem out_facts : ∀ t : Fin cfg0.N,
    win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N,
    win0_13.index t = ![t.val, 0] ∧ win0_14.index t = ![t.val, 0] ∧ win0_15.index t = ![t.val, 0]
    ∧ win0_16.index t = ![t.val, 0] ∧ win0_17.index t = ![t.val, 0])

/-- What a point leaves in the five cell-wise blocks, whichever case of the body runs. -/
theorem outs_rest (t : Fin cfg0.N) : (outsAt0 m c t.val t.isLt).2
    = (u1 (ins m c t), s1 (ins m c t), al (ins m c t), be (ins m c t), ga (ins m c t)) := by
  by_cases h0 : t.val % 50 = 0
  · rw [outs_A m c t h0]
  · rw [outs_B m c t h0]

/-- A model function as the contents of a column array. -/
def column (f : Fin 10000 → EReal) : S10000x1.Idx → EReal := fun i => f ⟨(i 0).val, (i 0).isLt⟩

/-- A point's row is the cell where its block puts it, read through a column. -/
theorem column_emb (f : Fin 10000 → EReal) (t : Fin cfg0.N) (r : Fin 200) (i : S10000x1.Idx)
    (hi : (i 0).val = 200 * t.val + r.val) : f (cell t r) = column f i := by
  unfold column
  exact congrArg f (Fin.ext hi.symm)

/-- The array of the extrapolated first quantity after the run. -/
theorem arr13 : (dats m 0 c).arrAt 13 cfg0.N = column (Velo.u1 (dataOf m c)) := by
  refine (dats m 0 c).arrAt_eq_of_covers 13 _ (by decide +kernel) fun t hf y => ?_
  blk_simp
  rw [after0_13, outs_rest]
  obtain ⟨r, z, rfl⟩ : ∃ (r : Fin 200) (z : Fin 1), y = ix2 r z := ⟨y 0, y 1, by ext a; fin_cases a <;> rfl⟩
  obtain rfl : z = 0 := Subsingleton.elim _ _
  refine (u1_apply m c t r).trans (column_emb _ t r _ ?_)
  blk_simp [out_facts t]
  simp [Nat.mul_comm]

/-- The array of the extrapolated second quantity after the run. -/
theorem arr14 : (dats m 0 c).arrAt 14 cfg0.N = column (Velo.s1 (dataOf m c)) := by
  refine (dats m 0 c).arrAt_eq_of_covers 14 _ (by decide +kernel) fun t hf y => ?_
  blk_simp
  rw [after0_14, outs_rest]
  obtain ⟨r, z, rfl⟩ : ∃ (r : Fin 200) (z : Fin 1), y = ix2 r z := ⟨y 0, y 1, by ext a; fin_cases a <;> rfl⟩
  obtain rfl : z = 0 := Subsingleton.elim _ _
  refine (s1_apply m c t r).trans (column_emb _ t r _ ?_)
  blk_simp [out_facts t]
  simp [Nat.mul_comm]

/-- The array of the first rate after the run. -/
theorem arr15 : (dats m 0 c).arrAt 15 cfg0.N = column (Velo.al (dataOf m c)) := by
  refine (dats m 0 c).arrAt_eq_of_covers 15 _ (by decide +kernel) fun t hf y => ?_
  blk_simp
  rw [after0_15, outs_rest]
  obtain ⟨r, z, rfl⟩ : ∃ (r : Fin 200) (z : Fin 1), y = ix2 r z := ⟨y 0, y 1, by ext a; fin_cases a <;> rfl⟩
  obtain rfl : z = 0 := Subsingleton.elim _ _
  refine (al_apply m c t r).trans (column_emb _ t r _ ?_)
  blk_simp [out_facts t]
  simp [Nat.mul_comm]

/-- The array of the second rate after the run. -/
theorem arr16 : (dats m 0 c).arrAt 16 cfg0.N = column (Velo.be (dataOf m c)) := by
  refine (dats m 0 c).arrAt_eq_of_covers 16 _ (by decide +kernel) fun t hf y => ?_
  blk_simp
  rw [after0_16, outs_rest]
  obtain ⟨r, z, rfl⟩ : ∃ (r : Fin 200) (z : Fin 1), y = ix2 r z := ⟨y 0, y 1, by ext a; fin_cases a <;> rfl⟩
  obtain rfl : z = 0 := Subsingleton.elim _ _
  refine (be_apply m c t r).trans (column_emb _ t r _ ?_)
  blk_simp [out_facts t]
  simp [Nat.mul_comm]

/-- The array of the third rate after the run. -/
theorem arr17 : (dats m 0 c).arrAt 17 cfg0.N = column (Velo.ga (dataOf m c)) := by
  refine (dats m 0 c).arrAt_eq_of_covers 17 _ (by decide +kernel) fun t hf y => ?_
  blk_simp
  rw [after0_17, outs_rest]
  obtain ⟨r, z, rfl⟩ : ∃ (r : Fin 200) (z : Fin 1), y = ix2 r z := ⟨y 0, y 1, by ext a; fin_cases a <;> rfl⟩
  obtain rfl : z = 0 := Subsingleton.elim _ _
  refine (ga_apply m c t r).trans (column_emb _ t r _ ?_)
  blk_simp [out_facts t]
  simp [Nat.mul_comm]

/-- The run of the kernel with its five cell-wise results as the model's columns. -/
theorem run_cells (ρ : Dev nD → PrngReg) :
    θ_run defs (onTc (τ := τ) (main (F := Ideal))) ⟨m, fun _ => 0, ρ⟩ fun r => ∀ c : Dev nD,
      r.2.mem ((c.tc : Thread nD τ).loc main_v11_0) = (dats m 0 c).arrAt 12 cfg0.N
      ∧ r.2.mem ((c.tc : Thread nD τ).loc main_v11_1) = column (Velo.u1 (dataOf m c))
      ∧ r.2.mem ((c.tc : Thread nD τ).loc main_v11_2) = column (Velo.s1 (dataOf m c))
      ∧ r.2.mem ((c.tc : Thread nD τ).loc main_v11_3) = column (Velo.al (dataOf m c))
      ∧ r.2.mem ((c.tc : Thread nD τ).loc main_v11_4) = column (Velo.be (dataOf m c))
      ∧ r.2.mem ((c.tc : Thread nD τ).loc main_v11_5) = column (Velo.ga (dataOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, h5, hr⟩ := h c
    exact ⟨h0, h1.trans (arr13 m c), h2.trans (arr14 m c), h3.trans (arr15 m c), h4.trans (arr16 m c),
      h5.trans (arr17 m c), hr⟩)
    (Cert.KernelIdeal.Value.run_blocks m ρ)

end Cert.KernelIdeal.Arrays
-- ==== Proof.Ref.lean ====
/- The reference's five cell-wise results at a cell are the model's functions. -/
module

public import proofs.«01_k».proof.Proof.Gen.ReferenceIdeal.Run
public import proofs.«01_k».proof.Proof.Gen.ReferenceIdeal.Read
public import proofs.«01_k».proof.Proof.Model
public import Idealize.ShloMosaic.Lib.Pointwise
public import Idealize.ShloMosaic.Lib.Claim
public import Idealize.ShloMosaic.Lib.StableHlo.ReadAt

@[expose] public section

set_option maxRecDepth 16384

noncomputable section

namespace Cert.ReferenceIdeal.Ref

open Cert.ReferenceIdeal Cert.ReferenceIdeal.Gen Cert.ReferenceIdeal.Read
open Idealize.ShloMosaic Idealize.ShloMosaic.TcCoe Idealize.SL.Sem

/-- The arguments of the host program, one array each. -/
structure Args where
  a0 : S10000.Idx → EReal
  a1 : S10000.Idx → EReal
  a2 : S1.Idx → EReal
  a3 : S1.Idx → EReal
  a4 : S1.Idx → EReal
  a5 : S10000.Idx → EReal
  a6 : S10000.Idx → EReal
  a8 : S2x100.Idx → EReal
  a9 : S100.Idx → EReal
  a10 : S100x3.Idx → EReal
  a11 : S3.Idx → EReal

variable (A : Args)

/-- The arguments as the model's data. -/
def Args.data : Velo.Data where
  u i := A.a0 (ix1 i)
  s i := A.a1 (ix1 i)
  a := A.a2 (ix1 0)
  b := A.a3 (ix1 0)
  g := A.a4 (ix1 0)
  e1 i := A.a5 (ix1 i)
  e2 i := A.a6 (ix1 i)
  w1 j k := A.a8 (ix2 j k)
  b1 k := A.a9 (ix1 k)
  w2 k o := A.a10 (ix2 k o)
  b2 o := A.a11 (ix1 o)

/-- The network's input: the two quantities side by side. -/
theorem v18_apply (i : Fin 10000) (j : Fin 2) :
    val_main_v18 (F := Ideal) A.a0 A.a1 (ix2 i j) = if j = 0 then A.data.u i else A.data.s i := by
  fin_cases j <;> unfold val_main_v18 <;> pointwise [val_main_v16, val_main_v17] <;> rfl

/-- The hidden layer before its activation and bias. -/
theorem v19_apply (i : Fin 10000) (k : Fin 100) :
    val_main_v19 (F := Ideal) A.a0 A.a1 A.a8 (ix2 i k)
      = A.data.u i * A.data.w1 0 k + A.data.s i * A.data.w1 1 k := by
  rw [val_main_v19_apply, Fin.sum_univ_two]
  have e : ∀ j : Fin 2, lidx_main_v19 (ix2 i k) j = ix2 i j := fun j => by ext a; fin_cases a <;> rfl
  have e' : ∀ j : Fin 2, ridx_main_v19 (ix2 i k) j = ix2 j k := fun j => by ext a; fin_cases a <;> rfl
  simp only [e, e', v18_apply]
  rfl

/-- The hidden layer. -/
theorem v24_apply (i : Fin 10000) (k : Fin 100) :
    val_main_v24 (F := Ideal) A.a0 A.a1 A.a8 A.a9 (ix2 i k) = Velo.hid A.data i k := by
  unfold val_main_v24 val_main_v22
  pointwise [val_main_v23, val_main_v21, val_main_v20, val_main_cst_1]
  rw [v19_apply]
  rfl

/-- The network's outputs before the logistic function. -/
theorem v28_apply (i : Fin 10000) (o : Fin 3) :
    val_main_v28 (F := Ideal) A.a0 A.a1 A.a8 A.a9 A.a10 A.a11 (ix2 i o)
      = ∑ k, Velo.hid A.data i k * A.data.w2 k o + A.data.b2 o := by
  have e : ∀ j : Fin 100, lidx_main_v25 (ix2 i o) j = ix2 i j := fun j => by ext a; fin_cases a <;> rfl
  have e' : ∀ j : Fin 100, ridx_main_v25 (ix2 i o) j = ix2 j o := fun j => by ext a; fin_cases a <;> rfl
  unfold val_main_v28
  pointwise [val_main_v27, val_main_v26]
  rw [val_main_v25_apply]
  simp only [e, e', v24_apply]
  rfl

/-- The network's outputs. -/
theorem v34_apply (i : Fin 10000) (o : Fin 3) :
    val_main_v34 (F := Ideal) A.a0 A.a1 A.a8 A.a9 A.a10 A.a11 (ix2 i o) = Velo.gate A.data i o := by
  unfold val_main_v34
  pointwise [val_main_v33, val_main_v32, val_main_v31, val_main_v30, val_main_v29, val_main_cst_2, val_main_cst_3]
  rw [v28_apply]
  rfl

/-- A rate. -/
theorem v39_apply (i : Fin 10000) :
    val_main_v39 (F := Ideal) A.a0 A.a1 A.a2 A.a8 A.a9 A.a10 A.a11 (ix1 i) = Velo.al A.data i := by
  unfold val_main_v39
  pointwise [val_main_v36, val_main_v35, val_main_v38, val_main_v37]
  rw [v34_apply]
  rfl

/-- A rate. -/
theorem v44_apply (i : Fin 10000) :
    val_main_v44 (F := Ideal) A.a0 A.a1 A.a3 A.a8 A.a9 A.a10 A.a11 (ix1 i) = Velo.be A.data i := by
  unfold val_main_v44
  pointwise [val_main_v41, val_main_v40, val_main_v43, val_main_v42]
  rw [v34_apply]
  rfl

/-- A rate. -/
theorem v49_apply (i : Fin 10000) :
    val_main_v49 (F := Ideal) A.a0 A.a1 A.a4 A.a8 A.a9 A.a10 A.a11 (ix1 i) = Velo.ga A.data i := by
  unfold val_main_v49
  pointwise [val_main_v46, val_main_v45, val_main_v48, val_main_v47]
  rw [v34_apply]
  rfl

/-- The extrapolated first quantity. -/
theorem v54_apply (i : Fin 10000) :
    val_main_v54 (F := Ideal) A.a0 A.a1 A.a2 A.a3 A.a8 A.a9 A.a10 A.a11 (ix1 i) = Velo.u1 A.data i := by
  unfold val_main_v54
  pointwise [val_main_v53, val_main_v52, val_main_v51, val_main_v50, val_main_cst_4]
  rw [v39_apply, v44_apply]
  rfl

/-- The extrapolated second quantity. -/
theorem v60_apply (i : Fin 10000) :
    val_main_v60 (F := Ideal) A.a0 A.a1 A.a3 A.a4 A.a8 A.a9 A.a10 A.a11 (ix1 i) = Velo.s1 A.data i := by
  unfold val_main_v60
  pointwise [val_main_v59, val_main_v58, val_main_v57, val_main_v56, val_main_v55, val_main_cst_5]
  rw [v49_apply, v44_apply]
  rfl

/-- The extrapolated first quantity, a column. -/
theorem v122_apply (i : Fin 10000) (z : Fin 1) :
    val_main_v122 (F := Ideal) A.a0 A.a1 A.a2 A.a3 A.a8 A.a9 A.a10 A.a11 (ix2 i z) = Velo.u1 A.data i := by
  unfold val_main_v122
  pointwise
  exact v54_apply A i

/-- The extrapolated second quantity, a column. -/
theorem v123_apply (i : Fin 10000) (z : Fin 1) :
    val_main_v123 (F := Ideal) A.a0 A.a1 A.a3 A.a4 A.a8 A.a9 A.a10 A.a11 (ix2 i z) = Velo.s1 A.data i := by
  unfold val_main_v123
  pointwise
  exact v60_apply A i

/-- The first rate, a column. -/
theorem v124_apply (i : Fin 10000) (z : Fin 1) :
    val_main_v124 (F := Ideal) A.a0 A.a1 A.a2 A.a8 A.a9 A.a10 A.a11 (ix2 i z) = Velo.al A.data i := by
  unfold val_main_v124
  pointwise
  exact v39_apply A i

/-- The second rate, a column. -/
theorem v125_apply (i : Fin 10000) (z : Fin 1) :
    val_main_v125 (F := Ideal) A.a0 A.a1 A.a3 A.a8 A.a9 A.a10 A.a11 (ix2 i z) = Velo.be A.data i := by
  unfold val_main_v125
  pointwise
  exact v44_apply A i

/-- The third rate, a column. -/
theorem v126_apply (i : Fin 10000) (z : Fin 1) :
    val_main_v126 (F := Ideal) A.a0 A.a1 A.a4 A.a8 A.a9 A.a10 A.a11 (ix2 i z) = Velo.ga A.data i := by
  unfold val_main_v126
  pointwise
  exact v49_apply A i

/-- The arguments of a launch. -/
def argsOf (m : (ℓ : Loc nD τ sig) → Buf (Elt Ideal) ℓ) (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a8 := m ((c.tc : Thread nD τ).loc main_arg8)
  a9 := m ((c.tc : Thread nD τ).loc main_arg9)
  a10 := m ((c.tc : Thread nD τ).loc main_arg10)
  a11 := m ((c.tc : Thread nD τ).loc main_arg11)

/-- A model function as the contents of a column array. -/
def column (f : Fin 10000 → EReal) : S10000x1.Idx → EReal := fun i => f ⟨(i 0).val, (i 0).isLt⟩

/-- An array whose rows are a model function is that function's column. -/
theorem eq_column (x : S10000x1.Idx → EReal) (f : Fin 10000 → EReal) (h : ∀ i z, x (ix2 i z) = f i) : x = column f := by
  funext i
  obtain ⟨r, z, rfl⟩ : ∃ (r : Fin 10000) (z : Fin 1), i = ix2 r z := ⟨i 0, i 1, by ext a; fin_cases a <;> rfl⟩
  exact h r z

/-- The run of the reference with its five cell-wise results as the model's columns; the cost stays the last stage of
    the program. -/
theorem run_cells (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v121) = val_main_v121 (F := Ideal) (argsOf m c).a0 (argsOf m c).a1
          (argsOf m c).a2 (argsOf m c).a3 (argsOf m c).a4 (argsOf m c).a5 (argsOf m c).a6 (argsOf m c).a8 (argsOf m c).a9
          (argsOf m c).a10 (argsOf m c).a11
      ∧ r.2.mem ((c.tc : Thread nD τ).loc main_v122) = column (Velo.u1 (argsOf m c).data)
      ∧ r.2.mem ((c.tc : Thread nD τ).loc main_v123) = column (Velo.s1 (argsOf m c).data)
      ∧ r.2.mem ((c.tc : Thread nD τ).loc main_v124) = column (Velo.al (argsOf m c).data)
      ∧ r.2.mem ((c.tc : Thread nD τ).loc main_v125) = column (Velo.be (argsOf m c).data)
      ∧ r.2.mem ((c.tc : Thread nD τ).loc main_v126) = column (Velo.ga (argsOf m c).data)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h0, h1, h2, h3, h4, h5, hr⟩ := h c
    refine ⟨h0.trans (val_main_v121_eq (StableHlo.launchContents m c)), ?_, ?_, ?_, ?_, ?_, hr⟩
    · exact (h1.trans (val_main_v122_eq (StableHlo.launchContents m c))).trans (eq_column _ _ (v122_apply (argsOf m c)))
    · exact (h2.trans (val_main_v123_eq (StableHlo.launchContents m c))).trans (eq_column _ _ (v123_apply (argsOf m c)))
    · exact (h3.trans (val_main_v124_eq (StableHlo.launchContents m c))).trans (eq_column _ _ (v124_apply (argsOf m c)))
    · exact (h4.trans (val_main_v125_eq (StableHlo.launchContents m c))).trans (eq_column _ _ (v125_apply (argsOf m c)))
    · exact (h5.trans (val_main_v126_eq (StableHlo.launchContents m c))).trans (eq_column _ _ (v126_apply (argsOf m c))))
    (Cert.ReferenceIdeal.Value.run m ρ)

end Cert.ReferenceIdeal.Ref
-- ==== Proof.Order.lean ====
/- A stable sort by decreasing value: the values fall, and equal values keep their order. -/
module

public import Idealize.ShloMosaic.PureOps.Ideal
public import Idealize.ShloMosaic.Lib.SortPrefix
public import Idealize.ShloMosaic.Lib.SortFacts
public import Mathlib.Tactic.Linarith
public import Mathlib.Tactic.Positivity
public import Mathlib.Tactic.Ring
public import Mathlib.Tactic.NormNum

@[expose] public section

noncomputable section

namespace Cert.Velo.Order

open Idealize.ShloMosaic

/-- The order in which a row's places come when its values are sorted, the greatest first. -/
def falling {n : ℕ} (x : Fin n → EReal) : Fin n → Fin n :=
  sortedFrom fun k k' => Ideal.cmp .ogt (x k) (x k') == 1#1

/-- Before: greater, or equal and at an earlier place. -/
def before {n : ℕ} (x : Fin n → EReal) (k k' : Fin n) : Bool :=
  decide (x k' < x k) || (decide (x k = x k') && decide (k < k'))

/-- Before is a strict total order. -/
theorem before_total {n : ℕ} (x : Fin n → EReal) : StrictTotalBefore (before x) :=
  StrictTotalBefore.of_key_then_position (fun a b : EReal => decide (b < a)) x (by simp)
    (fun a b c h h' => by simp only [decide_eq_true_eq] at *; exact h'.trans h)
    (fun a b => by simp only [decide_eq_true_eq]; rcases lt_trichotomy a b with h | h | h <;> simp [h])

/-- Two comparators that agree on a later place against an earlier one sort an increasing list alike. -/
theorem sort_congr {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The order of the sort is the order by before. -/
theorem falling_eq {n : ℕ} (x : Fin n → EReal) : falling x = sortedFrom (before x) := by
  have e : sortPositions n (fun k k' => Ideal.cmp .ogt (x k) (x k') == 1#1) = sortPositions n (before x) := by
    refine sort_congr _ _ (fun a b hab => ?_) _ (List.pairwise_lt_finRange n)
    have hn : ¬ b < a := not_lt.mpr hab.le
    simp only [before, hn, decide_false, Bool.and_false, Bool.or_false, Ideal.cmp]
    by_cases hc : x a < x b <;> simp [hc]
  funext k
  unfold falling sortedFrom
  simp only [List.get_eq_getElem, e]
  rfl

/-- The order names no place twice. -/
theorem falling_injective {n : ℕ} (x : Fin n → EReal) : Function.Injective (falling x) := sortedFrom_injective _

/-- The order names every place. -/
theorem falling_surjective {n : ℕ} (x : Fin n → EReal) : Function.Surjective (falling x) := sortedFrom_surjective _

/-- An earlier place of the sorted row holds a greater value, or an equal one from an earlier place. -/
theorem falling_order {n : ℕ} (x : Fin n → EReal) {i j : Fin n} (h : i < j) :
    x (falling x j) < x (falling x i) ∨ (x (falling x i) = x (falling x j) ∧ falling x i < falling x j) := by
  have hb := before_total x
  have hne : falling x i ≠ falling x j := fun e => h.ne (falling_injective x e)
  have hf : before x (falling x j) (falling x i) = false := by
    rw [falling_eq]
    exact sortedFrom_noInversion _ _ (fun a b => hb.asymm a b) (fun _ _ h => h) hb.negTrans i j h
  rcases hb.total _ _ hne with h1 | h1
  · simpa [before] using h1
  · rw [h1] at hf; exact absurd hf (by decide)

/-- The values fall. -/
theorem falling_le {n : ℕ} (x : Fin n → EReal) {i j : Fin n} (h : i ≤ j) : x (falling x j) ≤ x (falling x i) := by
  rcases h.lt_or_eq with h | h
  · rcases falling_order x h with h | h
    · exact h.le
    · exact h.1.ge
  · rw [h]

end Cert.Velo.Order

end
-- ==== Proof.Cost.lean ====
/- The cost of the velocities, as the reference states it: a cell's thirty nearest cells in falling order of nearness, the
   nearest dropped, the largest cosine between the cell's velocity and the differences to the others, and the mean over the
   cells of one minus that. -/
module

public import proofs.«01_k».proof.Proof.Model
public import proofs.«01_k».proof.Proof.Order

@[expose] public section

noncomputable section

namespace Cert.Velo

open Idealize.ShloMosaic

variable (D : Data)

/-- A point's squared length. -/
def sq (i : Fin 10000) : EReal := D.e1 i * D.e1 i + D.e2 i * D.e2 i

/-- The squared distance of two points, expanded. -/
def dist (i k : Fin 10000) : EReal :=
  sq D i + sq D k - Ideal.ofBits .f32 0x40000000#32 * (D.e1 i * D.e1 k + D.e2 i * D.e2 k)

/-- The cells in the order of their nearness to cell `i`. -/
def order (i : Fin 10000) : Fin 10000 → Fin 10000 := Order.falling fun k => -dist D i k

/-- The cells second to thirtieth in that order. -/
def nbr (i : Fin 10000) (j : Fin 29) : Fin 10000 := order D i ⟨1 + j.val, by omega⟩

/-- The least squared length that is divided by. -/
def tiny : EReal := Ideal.ofBits .f32 0x0DA24260#32

/-- A cell's velocity, as the difference of the quantities. -/
def vu (i : Fin 10000) : EReal := u1 D i - D.u i
def vs (i : Fin 10000) : EReal := s1 D i - D.s i
def vv (i : Fin 10000) : EReal := vu D i * vu D i + vs D i * vs D i

/-- The difference from cell `i` to cell `k`. -/
def nu (i k : Fin 10000) : EReal := D.u k - D.u i
def ns (i k : Fin 10000) : EReal := D.s k - D.s i
def nn (i k : Fin 10000) : EReal := nu D i k * nu D i k + ns D i k * ns D i k

/-- The cosine between them, or one where either vanishes. -/
def cosine (i k : Fin 10000) : EReal :=
  Scalar.select (IntOp.andi (BitVec.ofBool (decide (0 < nn D i k))) (BitVec.ofBool (decide (0 < vv D i))))
    (Ideal.div (nu D i k * vu D i + ns D i k * vs D i)
      (Ideal.sqrt (max (nn D i k) tiny) * Ideal.sqrt (max (vv D i) tiny))) 1

/-- The largest cosine among the neighbours. -/
def best (i : Fin 10000) : EReal :=
  Finset.fold max (Ideal.ofBits .f32 0xFF800000#32) (fun j => cosine D i (nbr D i j)) Finset.univ

/-- The mean over the cells. -/
def cost : EReal := Ideal.div (∑ i, (1 - best D i)) (Ideal.ofBits .f32 0x461C4000#32)

end Cert.Velo

end
-- ==== Proof.Nearest.lean ====
/- The host's `top_k` of a square matrix at a place: a row's values and positions in falling order. -/
module

public import proofs.«01_k».proof.Proof.Order
public import Idealize.ShloMosaic.Lib.Pointwise
public import Idealize.ShloMosaic.Lib.StableHlo

@[expose] public section

set_option maxRecDepth 16384

noncomputable section

namespace Cert.Velo.Order

open Idealize.ShloMosaic

variable {N K : ℕ}

/-- The index a slice from the front reads. -/
theorem slice_front {α : Type} (hK : K ≤ N) (h : (⟨2, ![N, N]⟩ : Shape).Slices (fun _ => 0) ⟨2, ![N, K]⟩)
    (x : (⟨2, ![N, N]⟩ : Shape).Idx → α) (i : Fin N) (p : Fin K) :
    extractStridedSlice ⟨2, ![N, K]⟩ (fun _ => 0) x h (ix2 i p) = x (ix2 i (p.castLE hK)) := by
  unfold extractStridedSlice
  congr 1
  ext a
  fin_cases a <;> simp [ix2]

/-- A place of a square matrix moved along its row. -/
def along (j : (⟨2, ![N, N]⟩ : Shape).Idx) (k : Fin N) : (⟨2, ![N, N]⟩ : Shape).Idx := Shape.Idx.along j (1 : Fin 2) k

/-- Moved along its row, a place keeps the row. -/
theorem along_row (i q k : Fin N) : along (ix2 i q) k = ix2 i k := by
  ext a
  fin_cases a <;> rfl

/-- Place `p` of the sorted row is place `falling p` of the row. -/
theorem top_values (hK : K ≤ N) (h : (⟨2, ![N, N]⟩ : Shape).Slices (fun _ => 0) ⟨2, ![N, K]⟩)
    (x : (⟨2, ![N, N]⟩ : Shape).Idx → EReal) (i : Fin N) (p : Fin K) :
    (Host.topK ⟨2, ![N, K]⟩ 1 (FloatOps.cmpfTotal (F := Ideal) (φ := .f32) .gt) x h).1 (ix2 i p)
      = x (ix2 i (falling (fun k => x (ix2 i k)) (p.castLE hK))) := by
  unfold Host.topK
  dsimp only
  rw [slice_front hK]
  unfold Host.sort2
  rw [dif_pos (show 1 < 2 from Nat.one_lt_two)]
  show x (along (ix2 i (p.castLE hK)) (sortedFrom (fun k k' => Ideal.cmp .ogt (x (along (ix2 i (p.castLE hK)) k))
    (x (along (ix2 i (p.castLE hK)) k')) == 1#1) (p.castLE hK))) = _
  simp only [along_row]
  rfl

/-- The position that comes with it. -/
theorem top_places (hK : K ≤ N) (h : (⟨2, ![N, N]⟩ : Shape).Slices (fun _ => 0) ⟨2, ![N, K]⟩)
    (x : (⟨2, ![N, N]⟩ : Shape).Idx → EReal) (i : Fin N) (p : Fin K) :
    (Host.topK ⟨2, ![N, K]⟩ 1 (FloatOps.cmpfTotal (F := Ideal) (φ := .f32) .gt) x h).2 (ix2 i p)
      = BitVec.ofNat 32 (falling (fun k => x (ix2 i k)) (p.castLE hK)).val := by
  unfold Host.topK
  dsimp only
  rw [slice_front hK]
  unfold Host.sort2
  rw [dif_pos (show 1 < 2 from Nat.one_lt_two)]
  dsimp only
  rw [dif_pos (show 1 < 2 from Nat.one_lt_two)]
  show BitVec.ofNat 32 (along (ix2 i (p.castLE hK)) (sortedFrom (fun k k' => Ideal.cmp .ogt
    (x (along (ix2 i (p.castLE hK)) k)) (x (along (ix2 i (p.castLE hK)) k')) == 1#1) (p.castLE hK)) 1).val = _
  simp only [along_row]
  rfl

end Cert.Velo.Order

end
-- ==== Proof.RefCost.lean ====
/- The reference's cost at its one place is the model's. -/
module

public import proofs.«01_k».proof.Proof.Ref
public import proofs.«01_k».proof.Proof.Cost
public import proofs.«01_k».proof.Proof.Nearest
public import Idealize.ShloMosaic.Lib.ValueIdxCore

@[expose] public section

set_option maxRecDepth 16384

noncomputable section

namespace Cert.ReferenceIdeal.Ref

open Cert.ReferenceIdeal Cert.ReferenceIdeal.Gen Cert.ReferenceIdeal.Read
open Idealize.ShloMosaic Idealize.ShloMosaic.TcCoe Idealize.SL.Sem

variable (A : Args)

/-- The coordinates side by side. -/
theorem v2_apply (i : Fin 10000) (j : Fin 2) :
    val_main_v2 (F := Ideal) A.a5 A.a6 (ix2 i j) = if j = 0 then A.data.e1 i else A.data.e2 i := by
  fin_cases j <;> unfold val_main_v2 <;> pointwise [val_main_v0, val_main_v1] <;> rfl

/-- The squared lengths. -/
theorem v4_apply (i : Fin 10000) : val_main_v4 (F := Ideal) A.a5 A.a6 (ix1 i) = Velo.sq A.data i := by
  unfold val_main_v4
  pointwise [val_main_v3, val_main_cst]
  rw [Fin.sum_univ_two, v2_apply, v2_apply]
  rfl

/-- The products of the points. -/
theorem v11_apply (i k : Fin 10000) : val_main_v11 (F := Ideal) A.a5 A.a6 (ix2 i k)
    = A.data.e1 i * A.data.e1 k + A.data.e2 i * A.data.e2 k := by
  have e : ∀ j : Fin 2, val_main_v10 (F := Ideal) A.a5 A.a6 (ix2 j k) = if j = 0 then A.data.e1 k else A.data.e2 k :=
    fun j => by
      unfold val_main_v10
      pointwise
      rw [v2_apply]
  rw [val_main_v11_apply, Fin.sum_univ_two]
  have e1 : ∀ j : Fin 2, lidx_main_v11 (ix2 i k) j = ix2 i j := fun j => by ext a; fin_cases a <;> rfl
  have e2 : ∀ j : Fin 2, ridx_main_v11 (ix2 i k) j = ix2 j k := fun j => by ext a; fin_cases a <;> rfl
  simp only [e1, e2, v2_apply, e]
  rfl

/-- The squared distances, negated. -/
theorem v15_apply (i k : Fin 10000) : val_main_v15 (F := Ideal) A.a5 A.a6 (ix2 i k) = -Velo.dist A.data i k := by
  unfold val_main_v15
  pointwise [val_main_v14, val_main_v9, val_main_v13, val_main_v12, val_main_cst_0, val_main_v7, val_main_v8, val_main_v5,
    val_main_v6]
  rw [v4_apply, v4_apply, v11_apply]
  rfl

/-- The positions of the nearest. -/
theorem indices_apply (i : Fin 10000) (p : Fin 30) : val_main_indices (F := Ideal) A.a5 A.a6 (ix2 i p)
    = BitVec.ofNat 32 (Velo.order A.data i (p.castLE (by omega))).val := by
  unfold val_main_indices
  refine (Velo.Order.top_places (N := 10000) (K := 30) (by omega) _ _ i p).trans ?_
  simp only [v15_apply]
  rfl

/-- The neighbours' positions, the nearest dropped. -/
theorem v64_apply (j : Fin 29) (i : Fin 10000) : val_main_v64 (F := Ideal) A.a5 A.a6 (ix2 j i)
    = BitVec.ofNat 32 (Velo.nbr A.data i j).val := by
  rw [val_main_v64_apply, val_main_v63_apply]
  have e : idx_main_v63 (idx_main_v64 (ix2 j i)) = ix2 i ⟨1 + j.val, by omega⟩ := by ext a; fin_cases a <;> rfl
  rw [e, indices_apply]
  rfl

/-- A position is no negative word. -/
theorem not_negative (k : Fin 10000) : IntOp.cmpi .slt (BitVec.ofNat 32 k.val) 0#32 = 0#1 := by
  have h : (BitVec.ofNat 32 k.val).toInt = k.val := by
    rw [BitVec.toInt_eq_toNat_of_lt] <;> simp <;> omega
  have h' : ¬ ((k.val : ℤ) < 0) := by omega
  simp [IntOp.cmpi, BitVec.slt, h, h']

/-- The neighbours' positions where negative ones would count from the end. -/
theorem v69_apply (j : Fin 29) (i : Fin 10000) : val_main_v69 (F := Ideal) A.a5 A.a6 (ix2 j i)
    = BitVec.ofNat 32 (Velo.nbr A.data i j).val := by
  unfold val_main_v69
  pointwise [val_main_v66, val_main_v65, val_main_c]
  rw [v64_apply, not_negative]
  rfl

/-- The same for the second gather. -/
theorem v79_apply (j : Fin 29) (i : Fin 10000) : val_main_v79 (F := Ideal) A.a5 A.a6 (ix2 j i)
    = BitVec.ofNat 32 (Velo.nbr A.data i j).val := by
  unfold val_main_v79
  pointwise [val_main_v76, val_main_v75, val_main_c_7]
  rw [v64_apply, not_negative]
  rfl

/-- A gather at a position that is in range. -/
theorem gather_place (x : S10000.Idx → EReal) (idx : IVec S29x10000x1 32) (j : Fin 29) (i k : Fin 10000)
    (h : idx (ix3 j i 0) = BitVec.ofNat 32 k.val) :
    Host.gather gather_S10000_S29x10000x1_S29x10000_n_0_n_n_0_2_1 x idx (ix2 j i) = x (ix1 k) := by
  refine (ValueIdx.gather_take_apply (by omega) _ x idx (ix2 j i)).trans ?_
  congr 2
  refine Fin.ext ?_
  have e : ValueIdx.takeIdx (ix2 j i) = ix3 j i 0 := by ext a; fin_cases a <;> rfl
  show min (idx (ValueIdx.takeIdx (ix2 j i))).toInt.toNat (10000 - 1) = k.val
  have h' : (BitVec.ofNat 32 k.val).toInt = k.val := by
    rw [BitVec.toInt_eq_toNat_of_lt] <;> simp <;> omega
  rw [e, h, h']
  omega

/-- The neighbours' quantities less the cell's. -/
theorem v74_apply (j : Fin 29) (i : Fin 10000) : val_main_v74 (F := Ideal) A.a0 A.a5 A.a6 (ix2 j i)
    = Velo.nu A.data i (Velo.nbr A.data i j) := by
  have e : val_main_v71 (F := Ideal) A.a0 A.a5 A.a6 (ix2 j i) = A.a0 (ix1 (Velo.nbr A.data i j)) := by
    have e : idx_main_v70 (ix3 j i 0) = ix2 j i := by ext a; fin_cases a <;> rfl
    have h := val_main_v70_apply (F := Ideal) A.a5 A.a6 (ix3 j i 0)
    rw [e, v69_apply] at h
    unfold val_main_v71
    exact gather_place A.a0 (val_main_v70 (F := Ideal) A.a5 A.a6) j i _ h
  unfold val_main_v74
  pointwise [val_main_v73, val_main_v72]
  rw [e]
  rfl

/-- The differences of the second quantity. -/
theorem v84_apply (j : Fin 29) (i : Fin 10000) : val_main_v84 (F := Ideal) A.a1 A.a5 A.a6 (ix2 j i)
    = Velo.ns A.data i (Velo.nbr A.data i j) := by
  have e : val_main_v81 (F := Ideal) A.a1 A.a5 A.a6 (ix2 j i) = A.a1 (ix1 (Velo.nbr A.data i j)) := by
    have e : idx_main_v80 (ix3 j i 0) = ix2 j i := by ext a; fin_cases a <;> rfl
    have h := val_main_v80_apply (F := Ideal) A.a5 A.a6 (ix3 j i 0)
    rw [e, v79_apply] at h
    unfold val_main_v81
    exact gather_place A.a1 (val_main_v80 (F := Ideal) A.a5 A.a6) j i _ h
  unfold val_main_v84
  pointwise [val_main_v83, val_main_v82]
  rw [e]
  rfl

/-- The differences' squared lengths. -/
theorem v87_apply (j : Fin 29) (i : Fin 10000) : val_main_v87 (F := Ideal) A.a0 A.a1 A.a5 A.a6 (ix2 j i)
    = Velo.nn A.data i (Velo.nbr A.data i j) := by
  unfold val_main_v87
  pointwise [val_main_v85, val_main_v86]
  rw [v74_apply, v84_apply]
  rfl

/-- The velocities and their squared lengths. -/
theorem v61_apply (i : Fin 10000) :
    val_main_v61 (F := Ideal) A.a0 A.a1 A.a2 A.a3 A.a8 A.a9 A.a10 A.a11 (ix1 i) = Velo.vu A.data i := by
  unfold val_main_v61
  pointwise
  rw [v54_apply]
  rfl

/-- The velocity of the second quantity. -/
theorem v62_apply (i : Fin 10000) :
    val_main_v62 (F := Ideal) A.a0 A.a1 A.a3 A.a4 A.a8 A.a9 A.a10 A.a11 (ix1 i) = Velo.vs A.data i := by
  unfold val_main_v62
  pointwise
  rw [v60_apply]
  rfl

/-- The squared length of the velocity. -/
theorem v90_apply (i : Fin 10000) :
    val_main_v90 (F := Ideal) A.a0 A.a1 A.a2 A.a3 A.a4 A.a8 A.a9 A.a10 A.a11 (ix1 i) = Velo.vv A.data i := by
  unfold val_main_v90
  pointwise [val_main_v88, val_main_v89]
  rw [v61_apply, v62_apply]
  rfl

/-- The cosines. -/
theorem v115_apply (j : Fin 29) (i : Fin 10000) :
    val_main_v115 (F := Ideal) A.a0 A.a1 A.a2 A.a3 A.a4 A.a5 A.a6 A.a8 A.a9 A.a10 A.a11 (ix2 j i)
      = Velo.cosine A.data i (Velo.nbr A.data i j) := by
  unfold val_main_v115
  pointwise [val_main_v114, val_main_v106, val_main_v113, val_main_v99, val_main_v101, val_main_v105, val_main_v104,
    val_main_v103, val_main_v109, val_main_v112, val_main_v108, val_main_v107, val_main_v111, val_main_v110, val_main_v93,
    val_main_v92, val_main_v91, val_main_cst_9, val_main_v98, val_main_v97, val_main_v96, val_main_v95, val_main_v94,
    val_main_cst_10, val_main_v100, val_main_cst_11, val_main_v102, val_main_cst_12, val_main_call0_v1]
  rw [v74_apply, v84_apply, v87_apply, v61_apply, v62_apply, v90_apply, val_main_call0_v0_apply, val_main_cst_13_apply,
    Ideal.ofBits_def, Ideal.ofBits_one_f32]
  rfl

/-- The cost. -/
theorem v121_apply :
    val_main_v121 (F := Ideal) A.a0 A.a1 A.a2 A.a3 A.a4 A.a5 A.a6 A.a8 A.a9 A.a10 A.a11 (ix2 0 0) = Velo.cost A.data := by
  unfold val_main_v121
  pointwise [val_main_v120, val_main_v119, val_main_v118, val_main_v117, val_main_v116, val_main_cst_15, val_main_cst_16,
    val_main_cst_14, val_main_cst_17]
  simp only [v115_apply]
  rfl

end Cert.ReferenceIdeal.Ref

end
-- ==== Proof.Search.lean ====
/- The search for the radius of one row: where a row's distances leave a gap behind the thirty nearest, twelve halvings of
   the bracket (on a logarithmic scale) end inside the gap. -/
module

public import Idealize.ShloMosaic.PureOps
public import Idealize.ShloMosaic.Lib.IdealHost
public import Mathlib.Tactic.Linarith
public import Mathlib.Tactic.Positivity
public import Mathlib.Tactic.Ring
public import Mathlib.Tactic.NormNum

@[expose] public section

noncomputable section

namespace Cert.Velo.Search

open Idealize.ShloMosaic

/-- What the search keeps of a row: a bracket, the radius found, and whether one was found. -/
structure Row where
  lo : EReal
  hi : EReal
  t : EReal
  done : BitVec 1

/-- The next radius to try: the geometric mean of the bracket, its lower end raised to a billionth of the upper. -/
def mid (s : Row) : EReal := Ideal.sqrt (max s.lo (s.hi * Ideal.ofBits .f32 814313567#32) * s.hi)

/-- How many of the distances are within a radius. -/
def cnt (d : Fin 10000 → EReal) (x : EReal) : EReal := ∑ k, if d k ≤ x then 1 else 0

/-- The radius tried singles out thirty, and none was found before. -/
def hit (d : Fin 10000 → EReal) (s : Row) : BitVec 1 :=
  IntOp.andi (BitVec.ofBool (decide (cnt d (mid s) = Ideal.ofBits .f32 1106247680#32))) (IntOp.xori s.done 1#1)

/-- The radius tried holds fewer than thirty. -/
def below (d : Fin 10000 → EReal) (s : Row) : BitVec 1 :=
  BitVec.ofBool (decide (cnt d (mid s) < Ideal.ofBits .f32 1106247680#32))

/-- One step of the search. -/
def step (d : Fin 10000 → EReal) (s : Row) : Row where
  lo := Scalar.select (IntOp.ori (IntOp.ori s.done (hit d s)) (IntOp.xori (below d s) 1#1)) s.lo (mid s)
  hi := Scalar.select (IntOp.ori (IntOp.ori s.done (hit d s)) (below d s)) s.hi (mid s)
  t := Scalar.select (hit d s) (mid s) s.t
  done := IntOp.ori s.done (hit d s)

/-- The radius the search ends with: the one found, or the upper end of the bracket. -/
def final (s : Row) : EReal := Scalar.select s.done s.t s.hi

/-- The word of thirty. -/
theorem thirty : Ideal.ofBits .f32 1106247680#32 = ((30 : ℝ) : EReal) := by
  simp [Ideal.ofBits, Ideal.ieee, ← EReal.coe_mul]; norm_num

/-- The real that stands for a billionth. -/
def nano : ℝ := 9007199 * (2 : ℝ) ^ (-53 : ℤ)

/-- The word of a billionth. -/
theorem nano_eq : Ideal.ofBits .f32 814313567#32 = (nano : EReal) := by
  simp [Ideal.ofBits, Ideal.ieee, nano]

/-- It is a billionth but for the rounding. -/
theorem nano_bounds : 9.99e-10 < nano ∧ nano < 1.001e-9 := by
  unfold nano; constructor <;> norm_num

/-- The word of two. -/
theorem two : Ideal.ofBits .f32 0x40000000#32 = ((2 : ℝ) : EReal) := by
  simp [Ideal.ofBits, Ideal.ieee, ← EReal.coe_mul]; norm_num

/-- The word of a half. -/
theorem one_half : Ideal.ofBits .f32 0x3F000000#32 = ((1 / 2 : ℝ) : EReal) := by
  simp [Ideal.ofBits, Ideal.ieee, ← EReal.coe_mul]; norm_num

/-- The word of the greatest value. -/
theorem top : Ideal.ofBits .f32 0x7F800000#32 = ⊤ := by simp [Ideal.ofBits, Ideal.ieee]

/-- The word of the least value. -/
theorem bottom : Ideal.ofBits .f32 0xFF800000#32 = ⊥ := by simp [Ideal.ofBits, Ideal.ieee]

/-- The least divisor is a small positive number. -/
theorem least_divisor : ∃ x : ℝ, Ideal.ofBits .f32 0x0DA24260#32 = x ∧ 0 < x ∧ x ≤ 1 := by
  refine ⟨10633824 * (2 : ℝ) ^ (-123 : ℤ), ?_, by positivity, by norm_num⟩
  simp [Ideal.ofBits, Ideal.ieee]

/-- The factor of the bracket's upper end is at least one and at most 1.05. -/
theorem widened : ∃ x : ℝ, Ideal.ofBits .f32 0x3F866666#32 = x ∧ 1 ≤ x ∧ x ≤ 1.05 := by
  refine ⟨8808038 * (2 : ℝ) ^ (-23 : ℤ), ?_, by norm_num, by norm_num⟩
  simp [Ideal.ofBits, Ideal.ieee]

/-- The score of a cell that is not selected is a large negative number. -/
theorem worst_score : ∃ x : ℝ, Ideal.ofBits .f32 0xFF7FC99E#32 = ((-x : ℝ) : EReal) ∧ 2 ^ 126 ≤ x := by
  refine ⟨16763294 * (2 : ℝ) ^ (104 : ℤ), ?_, by norm_num⟩
  simp [Ideal.ofBits, Ideal.ieee]

/-- The word of the number of cells. -/
theorem cells_value : Ideal.ofBits .f32 0x461C4000#32 = ((10000 : ℝ) : EReal) := by
  simp [Ideal.ofBits, Ideal.ieee, ← EReal.coe_mul]; norm_num

/-- The word of the gap's smaller number, 192. -/
theorem gap_small : Ideal.ofBits .f32 0x43400000#32 = ((192 : ℝ) : EReal) := by
  simp [Ideal.ofBits, Ideal.ieee, ← EReal.coe_mul]; norm_num

/-- The word of the gap's larger number, 193. -/
theorem gap_large : Ideal.ofBits .f32 0x43410000#32 = ((193 : ℝ) : EReal) := by
  simp [Ideal.ofBits, Ideal.ieee, ← EReal.coe_mul]; norm_num

/-- The word of the least spread's number, 7000. -/
theorem spread : Ideal.ofBits .f32 0x45DAC000#32 = ((7000 : ℝ) : EReal) := by
  simp [Ideal.ofBits, Ideal.ieee, ← EReal.coe_mul]; norm_num

/-- The word of the bound of the data, the sixtieth power of two. -/
theorem bound_value : Ideal.ofBits .f32 0x5D800000#32 = ((2 ^ 60 : ℝ) : EReal) := by
  rw [show (2 : ℝ) ^ 60 = 1152921504606846976 by norm_num]
  simp [Ideal.ofBits, Ideal.ieee, ← EReal.coe_mul]; norm_num

/-- A set of thirty distances, the largest `near`, that the others, the least `next`, leave alone. -/
structure Apart (d : Fin 10000 → ℝ) (S : Finset (Fin 10000)) (near next : ℝ) : Prop where
  card : S.card = 30
  le : ∀ k ∈ S, d k ≤ near
  at_near : ∃ k ∈ S, d k = near
  ge : ∀ k, k ∉ S → next ≤ d k
  at_next : ∃ k, k ∉ S ∧ d k = next
  gap : near * 193 < next * 192
  pos : 0 < near

variable {d : Fin 10000 → ℝ} {S : Finset (Fin 10000)} {near next : ℝ}

/-- The gap is one. -/
theorem Apart.lt (h : Apart d S near next) : near < next := by
  have := h.gap; have := h.pos; linarith

/-- The count as a number. -/
theorem cnt_coe (x : ℝ) : cnt (fun k => (d k : EReal)) (x : EReal)
    = (((Finset.univ.filter fun k => d k ≤ x).card : ℝ) : EReal) := by
  unfold cnt
  simp only [EReal.coe_le_coe_iff]
  rw [Finset.sum_boole, EReal.coe_natCast]

/-- A radius in the gap holds exactly the thirty. -/
theorem filter_in (h : Apart d S near next) {x : ℝ} (h1 : near ≤ x) (h2 : x < next) :
    (Finset.univ.filter fun k => d k ≤ x) = S := by
  ext k
  simp only [Finset.mem_filter, Finset.mem_univ, true_and]
  refine ⟨fun hk => ?_, fun hk => (h.le k hk).trans h1⟩
  by_contra hn
  have := h.ge k hn
  linarith

/-- A smaller radius holds fewer. -/
theorem card_below (h : Apart d S near next) {x : ℝ} (h1 : x < near) :
    (Finset.univ.filter fun k => d k ≤ x).card < 30 := by
  rw [← h.card]
  apply Finset.card_lt_card
  refine ⟨fun k hk => ?_, fun hs => ?_⟩
  · simp only [Finset.mem_filter, Finset.mem_univ, true_and] at hk
    by_contra hn
    have := h.ge k hn
    have := h.lt
    linarith
  · obtain ⟨k, hk, he⟩ := h.at_near
    have := hs hk
    simp only [Finset.mem_filter, Finset.mem_univ, true_and] at this
    linarith

/-- A larger one holds more. -/
theorem card_above (h : Apart d S near next) {x : ℝ} (h1 : next ≤ x) :
    30 < (Finset.univ.filter fun k => d k ≤ x).card := by
  rw [← h.card]
  apply Finset.card_lt_card
  refine ⟨fun k hk => ?_, fun hs => ?_⟩
  · simp only [Finset.mem_filter, Finset.mem_univ, true_and]
    have := h.le k hk
    have := h.lt
    linarith
  · obtain ⟨k, hk, he⟩ := h.at_next
    refine hk (hs ?_)
    simp only [Finset.mem_filter, Finset.mem_univ, true_and]
    linarith

/-- After `n` steps behind the first: a radius in the gap was found, or the bracket holds the gap and its ends' ratio is at
    most the `2 ^ n`-th root of forty thousand. -/
def Inv (near next : ℝ) (n : ℕ) (s : Row) : Prop :=
  (s.done = 1#1 ∧ ∃ t : ℝ, s.t = t ∧ near ≤ t ∧ t < next) ∨
  (s.done = 0#1 ∧ ∃ lo hi : ℝ, s.lo = lo ∧ s.hi = hi ∧ 0 < lo ∧ lo < near ∧ next ≤ hi ∧
    hi ^ (2 ^ n) ≤ 40000 * lo ^ (2 ^ n))

/-- A step with a radius found changes nothing that counts. -/
theorem step_done {e : Fin 10000 → EReal} {s : Row} (h : s.done = 1#1) : (step e s).done = 1#1 ∧ (step e s).t = s.t := by
  have hh : hit e s = 0#1 := by unfold hit; rw [h]; simp [IntOp.andi, IntOp.xori]
  constructor
  · show IntOp.ori s.done (hit e s) = 1#1
    rw [h, hh]; decide
  · show Scalar.select (hit e s) (mid s) s.t = s.t
    rw [hh]; rfl

/-- What a step does when the radius tried is a number. -/
theorem step_cases (h : Apart d S near next) {s : Row} (h0 : s.done = 0#1) {x : ℝ} (hm : mid s = x) :
    (near ≤ x ∧ x < next ∧ (step (fun k => (d k : EReal)) s).done = 1#1 ∧ (step (fun k => (d k : EReal)) s).t = x) ∨
    (x < near ∧ (step (fun k => (d k : EReal)) s).done = 0#1 ∧ (step (fun k => (d k : EReal)) s).lo = x ∧
      (step (fun k => (d k : EReal)) s).hi = s.hi) ∨
    (next ≤ x ∧ (step (fun k => (d k : EReal)) s).done = 0#1 ∧ (step (fun k => (d k : EReal)) s).lo = s.lo ∧
      (step (fun k => (d k : EReal)) s).hi = x) := by
  rcases lt_or_ge x near with h1 | h1
  · have c := card_below h h1
    have hh : hit (fun k => (d k : EReal)) s = 0#1 := by
      have hn : ¬ cnt (fun k => (d k : EReal)) (mid s) = Ideal.ofBits .f32 1106247680#32 := by
        rw [hm, cnt_coe, thirty, EReal.coe_eq_coe_iff]
        exact_mod_cast c.ne
      unfold hit
      rw [decide_eq_false hn, h0]
      rfl
    have hb : below (fun k => (d k : EReal)) s = 1#1 := by
      have hn : cnt (fun k => (d k : EReal)) (mid s) < Ideal.ofBits .f32 1106247680#32 := by
        rw [hm, cnt_coe, thirty, EReal.coe_lt_coe_iff]
        exact_mod_cast c
      unfold below
      rw [decide_eq_true hn]
      rfl
    right; left
    unfold step
    rw [hh, hb, h0, hm]
    exact ⟨h1, rfl, rfl, rfl⟩
  rcases lt_or_ge x next with h2 | h2
  · have c := filter_in h h1 h2
    have hh : hit (fun k => (d k : EReal)) s = 1#1 := by
      have hn : cnt (fun k => (d k : EReal)) (mid s) = Ideal.ofBits .f32 1106247680#32 := by
        rw [hm, cnt_coe, thirty, EReal.coe_eq_coe_iff, c, h.card]
        norm_num
      unfold hit
      rw [decide_eq_true hn, h0]
      rfl
    left
    unfold step
    rw [hh, h0, hm]
    exact ⟨h1, h2, rfl, rfl⟩
  · have c := card_above h h2
    have hh : hit (fun k => (d k : EReal)) s = 0#1 := by
      have hn : ¬ cnt (fun k => (d k : EReal)) (mid s) = Ideal.ofBits .f32 1106247680#32 := by
        rw [hm, cnt_coe, thirty, EReal.coe_eq_coe_iff]
        exact_mod_cast c.ne'
      unfold hit
      rw [decide_eq_false hn, h0]
      rfl
    have hb : below (fun k => (d k : EReal)) s = 0#1 := by
      have hn : ¬ cnt (fun k => (d k : EReal)) (mid s) < Ideal.ofBits .f32 1106247680#32 := by
        rw [hm, cnt_coe, thirty, EReal.coe_lt_coe_iff]
        exact_mod_cast c.le.not_gt
      unfold below
      rw [decide_eq_false hn]
      rfl
    right; right
    unfold step
    rw [hh, hb, h0, hm]
    exact ⟨h2, rfl, rfl, rfl⟩

/-- The root of a product of numbers. -/
theorem mid_coe {s : Row} {lo hi : ℝ} (hl : s.lo = lo) (hh : s.hi = hi) (h0 : 0 ≤ lo) (h1 : 0 ≤ hi) :
    mid s = (Real.sqrt (max lo (hi * nano) * hi) : ℝ) := by
  unfold mid
  rw [hl, hh, nano_eq, ← EReal.coe_mul, ← EReal.coe_strictMono.monotone.map_max, ← EReal.coe_mul, Ideal.sqrt_coe, if_neg]
  exact not_lt.mpr (mul_nonneg (h0.trans (le_max_left _ _)) h1)

/-- One more step. -/
theorem inv_step (h : Apart d S near next) {n : ℕ} {s : Row} (hs : Inv near next n s) :
    Inv near next (n + 1) (step (fun k => (d k : EReal)) s) := by
  rcases hs with ⟨h1, t, ht, hn⟩ | ⟨h0, lo, hi, hl, hh, hp, hlt, hge, hq⟩
  · obtain ⟨a, b⟩ := step_done (e := fun k => (d k : EReal)) h1
    exact Or.inl ⟨a, t, b.trans ht, hn⟩
  have hhp : 0 < hi := lt_of_lt_of_le (h.pos.trans h.lt) hge
  have hN : 1 ≤ 2 ^ n := Nat.one_le_two_pow
  have hr : hi ≤ 40000 * lo := by
    by_contra hc
    rw [not_le] at hc
    have e1 : (40000 * lo) ^ (2 ^ n) < hi ^ (2 ^ n) := pow_lt_pow_left₀ hc (by positivity) (by omega)
    rw [mul_pow] at e1
    have e2 : (40000 : ℝ) ≤ 40000 ^ (2 ^ n) := le_self_pow₀ (by norm_num) (by omega)
    have e3 : 0 < lo ^ (2 ^ n) := by positivity
    nlinarith
  have hmax : max lo (hi * nano) = lo := max_eq_left (by nlinarith [nano_bounds.1, nano_bounds.2])
  have hm := mid_coe hl hh hp.le hhp.le
  rw [hmax] at hm
  have hx : 0 < Real.sqrt (lo * hi) := Real.sqrt_pos.mpr (by positivity)
  have hsq : Real.sqrt (lo * hi) ^ (2 ^ (n + 1)) = lo ^ (2 ^ n) * hi ^ (2 ^ n) := by
    rw [pow_succ', pow_mul, Real.sq_sqrt (by positivity), mul_pow]
  have p1 : 0 < lo ^ (2 ^ n) := by positivity
  have p2 : 0 < hi ^ (2 ^ n) := by positivity
  rcases step_cases h h0 hm with ⟨a, b, c, e⟩ | ⟨a, b, c, e⟩ | ⟨a, b, c, e⟩
  · exact Or.inl ⟨c, _, e, a, b⟩
  · refine Or.inr ⟨b, _, hi, c, e.trans hh, hx, a, hge, ?_⟩
    rw [hsq, pow_succ', mul_comm 2, pow_mul, sq]
    nlinarith
  · refine Or.inr ⟨b, lo, _, c.trans hl, e, hp, hlt, a, ?_⟩
    rw [hsq, pow_succ', mul_comm 2, pow_mul, sq]
    nlinarith

/-- The first step, from a bracket that begins at zero. -/
theorem inv_first (h : Apart d S near next) {s : Row} (h0 : s.done = 0#1) (hl : s.lo = 0) {hi : ℝ} (hh : s.hi = hi)
    (hge : next ≤ hi) (hsm : hi * 3.17e-5 < near) : Inv near next 0 (step (fun k => (d k : EReal)) s) := by
  have hhp : 0 < hi := lt_of_lt_of_le (h.pos.trans h.lt) hge
  have hm := mid_coe (lo := 0) hl hh le_rfl hhp.le
  obtain ⟨n1, n2⟩ := nano_bounds
  have hmax : max 0 (hi * nano) = hi * nano := max_eq_right (by nlinarith)
  rw [hmax] at hm
  have b1 : Real.sqrt (hi * nano * hi) ≤ hi * 3.17e-5 := by
    rw [Real.sqrt_le_left (by positivity)]
    nlinarith [sq_nonneg hi, mul_pos hhp hhp]
  have b2 : hi / 40000 ≤ Real.sqrt (hi * nano * hi) := by
    apply Real.le_sqrt_of_sq_le
    nlinarith [sq_nonneg hi, mul_pos hhp hhp]
  rcases step_cases h h0 hm with ⟨a, b, c, e⟩ | ⟨a, b, c, e⟩ | ⟨a, b, c, e⟩
  · exact Or.inl ⟨c, _, e, a, b⟩
  · refine Or.inr ⟨b, _, hi, c, e.trans hh, lt_of_lt_of_le (by positivity) b2, a, hge, ?_⟩
    simp only [pow_zero, pow_one]
    linarith
  · have := h.lt
    linarith

set_option exponentiation.threshold 3000 in
/-- Twelve steps suffice. -/
theorem found (h : Apart d S near next) {s : Row} (h0 : s.done = 0#1) (hl : s.lo = 0) {hi : ℝ} (hh : s.hi = hi)
    (hge : next ≤ hi) (hsm : hi * 3.17e-5 < near) :
    ∃ t : ℝ, final ((step (fun k => (d k : EReal)))^[12] s) = t ∧ near ≤ t ∧ t < next := by
  have hn : ∀ n, Inv near next n ((step (fun k => (d k : EReal)))^[n + 1] s) := by
    intro n
    induction n with
    | zero => exact inv_first h h0 hl hh hge hsm
    | succ n ih => rw [Function.iterate_succ_apply']; exact inv_step h ih
  rcases hn 11 with ⟨h1, t, ht, hn⟩ | ⟨_, lo, hi', _, _, hp, hlt, hge', hq⟩
  · refine ⟨t, ?_, hn⟩
    unfold final
    rw [h1]
    exact ht
  · exfalso
    have e1 : (near * 193) ^ 2048 ≤ (hi' * 192) ^ 2048 :=
      pow_le_pow_left₀ (by have := h.pos; positivity) (by have := h.gap; nlinarith) _
    have e2 : lo ^ 2048 < near ^ 2048 := pow_lt_pow_left₀ hlt hp.le (by norm_num)
    have e3 : (40000 : ℝ) * 192 ^ 2048 ≤ 193 ^ 2048 := by norm_num
    rw [mul_pow, mul_pow] at e1
    rw [show (2 : ℕ) ^ 11 = 2048 by norm_num] at hq
    have p : (0 : ℝ) < 192 ^ 2048 := by positivity
    have pn : (0 : ℝ) < near ^ 2048 := by have := h.pos; positivity
    generalize hA : (193 : ℝ) ^ 2048 = A at e1 e3
    generalize hB : (192 : ℝ) ^ 2048 = B at e1 e3 p
    generalize near ^ 2048 = N at e1 e2 pn
    generalize lo ^ 2048 = L at e2 hq
    generalize hi' ^ 2048 = H at e1 hq
    have f1 : N * (40000 * B) ≤ N * A := mul_le_mul_of_nonneg_left e3 pn.le
    have f2 : H * B ≤ 40000 * L * B := mul_le_mul_of_nonneg_right hq p.le
    have f3 : L * B < N * B := mul_lt_mul_of_pos_right e2 p
    linarith

end Cert.Velo.Search

end
-- ==== Proof.KernelCost.lean ====
/- The kernel's cost: what one point of the grid adds to it, row by row, and the sum over the points. -/
module

public import proofs.«01_k».proof.Proof.Bodies
public import proofs.«01_k».proof.Proof.Cost
public import proofs.«01_k».proof.Proof.Search
public import Idealize.ShloMosaic.Lib.Pipeline.ValueKit

@[expose] public section

set_option maxRecDepth 16384

noncomputable section

namespace Cert.Velo

open Idealize.ShloMosaic

variable (D : Data)

/-- The smallest distance of a row, and a bound that every distance is under. -/
def least (i : Fin 10000) : EReal := Finset.fold min (Ideal.ofBits .f32 0x7F800000#32) (fun k => dist D i k) Finset.univ
def reach (i : Fin 10000) : EReal :=
  (Ideal.sqrt (sq D i) + Ideal.sqrt (Finset.fold max (Ideal.ofBits .f32 0xFF800000#32) (fun k => sq D k) Finset.univ))
    * (Ideal.sqrt (sq D i) + Ideal.sqrt (Finset.fold max (Ideal.ofBits .f32 0xFF800000#32) (fun k => sq D k) Finset.univ))
    * Ideal.ofBits .f32 0x3F866666#32 + 1

/-- The radius that the search ends with. -/
def radius (i : Fin 10000) : EReal :=
  Search.final ((Search.step (fun k => dist D i k))^[12] ⟨least D i, reach D i, least D i, 0#1⟩)

/-- The first place of the smallest distance. -/
def first (i : Fin 10000) : BitVec 32 :=
  Finset.fold IntOp.minsi 2147483647#32
    (fun k : Fin 10000 => if dist D i k ≤ least D i then BitVec.ofNat 32 k.val else 2147483647#32) Finset.univ

/-- The squared length of the increment. -/
def dd (i : Fin 10000) : EReal := du D i * du D i + ds D i * ds D i

/-- The cosine, but for the increment's length. -/
def score (i k : Fin 10000) : EReal :=
  if 0 < nn D i k then (nu D i k * du D i + ns D i k * ds D i) * Ideal.rsqrt (max (nn D i k) tiny)
  else Ideal.sqrt (max (dd D i) tiny)

/-- The largest score in the radius, the first place left out. -/
def pick (i : Fin 10000) : EReal :=
  Finset.fold max (Ideal.ofBits .f32 0xFF800000#32) (fun k : Fin 10000 =>
    Scalar.select (IntOp.andi (BitVec.ofBool (decide (dist D i k ≤ radius D i)))
      (IntOp.cmpi .ne (BitVec.ofNat 32 k.val) (first D i))) (score D i k) (Ideal.ofBits .f32 0xFF7FC99E#32)) Finset.univ

/-- The kernel's largest cosine of a cell. -/
def found (i : Fin 10000) : EReal :=
  if 0 < dd D i then Ideal.div (pick D i) (Ideal.sqrt (max (dd D i) tiny)) else 1

end Cert.Velo

namespace Cert.KernelIdeal.KernelCost

open Cert.KernelIdeal Cert.KernelIdeal.Gen Cert.KernelIdeal.Blocks Cert.KernelIdeal.Bodies
open Idealize.ShloMosaic Idealize.ShloMosaic.TcCoe Idealize.SL.Sem

/-- One row of the search's state. -/
def row (s : Steps.St Ideal) (r : Fin 200) : Velo.Search.Row := ⟨s.lo (ix2 r 0), s.hi (ix2 r 0), s.t (ix2 r 0), s.done (ix2 r 0)⟩

/-- The count of a row. -/
theorem cnt_apply (d : FVec Ideal S200x10000 .f32) (x : FVec Ideal S200x1 .f32) (r : Fin 200) :
    Steps.cnt d x (ix2 r 0) = Velo.Search.cnt (fun k => d (ix2 r k)) (x (ix2 r 0)) := by
  pointwise [Steps.cnt]
  rfl

/-- The radius that a row tries next. -/
theorem mid_apply (s : Steps.St Ideal) (r : Fin 200) : Steps.mid s (ix2 r 0) = Velo.Search.mid (row s r) := by
  pointwise [Steps.mid]
  rfl

/-- Whether the radius tried holds thirty. -/
theorem hit_apply (d : FVec Ideal S200x10000 .f32) (s : Steps.St Ideal) (r : Fin 200) :
    Steps.hit d s (ix2 r 0) = Velo.Search.hit (fun k => d (ix2 r k)) (row s r) := by
  unfold Velo.Search.hit
  rw [← mid_apply, ← cnt_apply]
  pointwise [Steps.hit]
  rfl

/-- Whether the radius tried holds too few. -/
theorem below_apply (d : FVec Ideal S200x10000 .f32) (s : Steps.St Ideal) (r : Fin 200) :
    Steps.below d s (ix2 r 0) = Velo.Search.below (fun k => d (ix2 r k)) (row s r) := by
  unfold Velo.Search.below
  rw [← mid_apply, ← cnt_apply]
  pointwise [Steps.below]

/-- A step of the search is a step of each row. -/
theorem row_step (d : FVec Ideal S200x10000 .f32) (s : Steps.St Ideal) (r : Fin 200) :
    row (Steps.step d s) r = Velo.Search.step (fun k => d (ix2 r k)) (row s r) := by
  unfold Velo.Search.step
  rw [← mid_apply, ← hit_apply, ← below_apply]
  unfold row
  rw [Velo.Search.Row.mk.injEq]
  refine ⟨?_, ?_, ?_, ?_⟩ <;> pointwise [Steps.step]

/-- Several steps, row by row. -/
theorem row_steps (d : FVec Ideal S200x10000 .f32) (n : ℕ) (s : Steps.St Ideal) (r : Fin 200) :
    row ((Steps.step d)^[n] s) r = (Velo.Search.step (fun k => d (ix2 r k)))^[n] (row s r) := by
  induction n with
  | zero => rfl
  | succ n ih => rw [Function.iterate_succ_apply', Function.iterate_succ_apply', row_step, ih]

/-- The radius found, row by row. -/
theorem t30_apply (d : FVec Ideal S200x10000 .f32) (t0 hi0 : FVec Ideal S200x1 .f32) (r : Fin 200) :
    Steps.t30 d t0 hi0 (ix2 r 0) = Velo.Search.final ((Velo.Search.step (fun k => d (ix2 r k)))^[12]
      ⟨t0 (ix2 r 0), hi0 (ix2 r 0), t0 (ix2 r 0), 0#1⟩) := by
  unfold Steps.t30
  have h := row_steps d 12 (Steps.start t0 hi0) r
  have e : row (Steps.start t0 hi0) r = ⟨t0 (ix2 r 0), hi0 (ix2 r 0), t0 (ix2 r 0), 0#1⟩ := rfl
  rw [← e, ← h]
  generalize (Steps.step d)^[12] (Steps.start t0 hi0) = s
  rfl

variable (m : (ℓ : Loc nD τ sig) → Buf (Elt Ideal) ℓ) (c : Dev nD) (t : Fin cfg0.N)

/-- The squared lengths of a block's points and of all points. -/
theorem sqc_apply (r : Fin 200) : k0_pay17 (k0_pay4 (ins m c t).e1c) (k0_pay5 (ins m c t).e2c) (ix2 r 0)
    = Velo.sq (dataOf m c) (cell t r) := by
  unfold Velo.sq
  rw [← e1c_apply, ← e2c_apply]
  pointwise [k0_pay17, k0_pay4, k0_pay5]

/-- The squared length of a point among all points. -/
theorem sqr_apply (k : Fin 10000) : k0_pay18 (k0_pay6 (ins m c t).e1r) (k0_pay7 (ins m c t).e2r) (ix2 0 k)
    = Velo.sq (dataOf m c) k := by
  unfold Velo.sq
  rw [← e1r_apply m c t, ← e2r_apply m c t]
  pointwise [k0_pay18, k0_pay6, k0_pay7]

/-- The squared distances. -/
theorem d2_apply (r : Fin 200) (k : Fin 10000) : d2 (ins m c t) (ix2 r k) = Velo.dist (dataOf m c) (cell t r) k := by
  unfold Velo.dist
  rw [← sqc_apply, ← sqr_apply m c t, ← e1c_apply, ← e2c_apply, ← e1r_apply m c t, ← e2r_apply m c t]
  unfold d2
  pointwise [k0_pay19, k0_pay4, k0_pay5, k0_pay6, k0_pay7]

/-- The smallest distance of a row. -/
theorem t0_apply (r : Fin 200) : t0 (ins m c t) (ix2 r 0) = Velo.least (dataOf m c) (cell t r) := by
  unfold Velo.least
  simp only [← d2_apply]
  pointwise [t0, k0_pay20]
  rfl

/-- The upper end of the bracket of a row. -/
theorem hi0_apply (r : Fin 200) : hi0 (ins m c t) (ix2 r 0) = Velo.reach (dataOf m c) (cell t r) := by
  pointwise [hi0, k0_pay21]
  simp only [sqc_apply, sqr_apply]
  rfl

/-- The first place of the smallest distance of a row. -/
theorem first_apply (r : Fin 200) : k0_pay111 (d2 (ins m c t)) (t0 (ins m c t)) (ix2 r 0)
    = Velo.first (dataOf m c) (cell t r) := by
  unfold Velo.first
  simp only [← d2_apply, ← t0_apply]
  pointwise [k0_pay111]

/-- The radius that a row's search ends with. -/
theorem radius_apply (r : Fin 200) : Steps.t30 (d2 (ins m c t)) (t0 (ins m c t)) (hi0 (ins m c t)) (ix2 r 0)
    = Velo.radius (dataOf m c) (cell t r) := by
  rw [t30_apply]
  simp only [d2_apply, t0_apply, hi0_apply]
  rfl

/-- The differences of the quantities. -/
theorem nu_apply (r : Fin 200) (k : Fin 10000) : k0_pay112 (k0_pay2 (ins m c t).uc) (ins m c t).ur (ix2 r k)
    = Velo.nu (dataOf m c) (cell t r) k := by
  unfold Velo.nu
  rw [← uc_apply, ← ur_apply m c t]
  pointwise [k0_pay112, k0_pay2]

/-- The differences of the second quantity. -/
theorem ns_apply (r : Fin 200) (k : Fin 10000) : k0_pay113 (k0_pay3 (ins m c t).sc) (ins m c t).sr (ix2 r k)
    = Velo.ns (dataOf m c) (cell t r) k := by
  unfold Velo.ns
  rw [← sc_apply, ← sr_apply m c t]
  pointwise [k0_pay113, k0_pay3]

/-- What a point adds to the cost. -/
theorem part_apply : part (ins m c t) (ix2 0 0)
    = (∑ r : Fin 200, (1 - Velo.found (dataOf m c) (cell t r))) * Named.named (F := Ideal) (φ := .f32) κ "inv_n" 0x38D1B717#32 := by
  unfold part
  pointwise [k0_pay115, k0_pay114]
  simp only [uv_apply, sv_apply, d2_apply, radius_apply, first_apply, nu_apply, ns_apply]
  rfl

/-- The only place of the cost. -/
theorem one_place (j : S1x1.Idx) : j = ix2 0 0 := by
  have h0 : (j 0).val < 1 := (j 0).isLt
  have h1 : (j 1).val < 1 := (j 1).isLt
  ext a
  fin_cases a
  · show (j 0).val = 0
    omega
  · show (j 1).val = 0
    omega

/-- Adding into the kept block. -/
theorem add_apply (p a : FVec Ideal S1x1 .f32) (j : S1x1.Idx) : k0_pay1 p (k0_pay117 a) j = a j + p j := by
  pointwise [k0_pay1, k0_pay117]

/-- The block before the first point. -/
theorem zero_apply (j : S1x1.Idx) : k0_pay116 (F := Ideal) j = 0 := by pointwise [k0_pay116]

/-- The array of the cost after the run: the sum of the points' parts. -/
theorem arr12 : (dats m 0 c).arrAt 12 cfg0.N
    = fun _ => ∑ p : Fin 50, (∑ r : Fin 200, (1 - Velo.found (dataOf m c) ⟨200 * p.val + r.val, by omega⟩))
        * Named.named (F := Ideal) (φ := .f32) κ "inv_n" 0x38D1B717#32 := by
  refine (dats m 0 c).arrAt_eq_of_covers 12 _ (by decide +kernel) fun t hf y => ?_
  blk_simp
  rw [after0_12, Pipeline.eq_sum_fin_of_reset_step_apply_of_flush (fun n h => (outsAt0 m c n h).1) 50 (fun _ => 0)
    (fun p _ => part (ins m c p) (ix2 0 0))
    (fun t h j => by
      rw [outs_A m c t h]
      rw [one_place j]
      exact (add_apply _ _ _).trans (by rw [zero_apply]))
    (fun t h j => by
      rw [outs_B m c t h]
      rw [one_place j]
      exact add_apply _ _ _)
    t ((flush0_12 t).mp hf) _, zero_add]
  refine Fin.sum_fin_congr fun s => ?_
  rw [part_apply]
  have ht : t.val < 50 := lt_of_lt_of_eq t.isLt (show cfg0.N = 50 from N_0)
  have e : ∀ h : 50 * (t.val / 50) + s.val < cfg0.N, ∀ r : Fin 200,
      cell ⟨50 * (t.val / 50) + s.val, h⟩ r = ⟨200 * s.val + r.val, by omega⟩ := fun h r => Fin.ext (by
    show 200 * (50 * (t.val / 50) + s.val) + r.val = 200 * s.val + r.val
    omega)
  simp only [e]

end Cert.KernelIdeal.KernelCost

end
-- ==== Proof.Near.lean ====
/- The nearest cells of a row: where the thirty nearest stand apart, the kernel's search selects the reference's neighbours. -/
module

public import proofs.«01_k».proof.Proof.KernelCost
public import Idealize.ShloMosaic.Lib.PlanTiles.Rows

@[expose] public section

set_option maxRecDepth 16384

noncomputable section

namespace Cert.Velo

open Idealize.ShloMosaic

/-- A largest value is the maximum, whatever smaller value the fold starts with. -/
theorem fold_max_at {n : ℕ} (f : Fin n → EReal) (k : Fin n) (h : ∀ j, f j ≤ f k) :
    Finset.fold max ⊥ f Finset.univ = f k :=
  le_antisymm (Finset.fold_max_le (f k) |>.mpr ⟨bot_le, fun j _ => h j⟩)
    (Finset.le_fold_max (f k) |>.mpr (Or.inr ⟨k, Finset.mem_univ k, le_rfl⟩))

/-- A smallest value is the minimum. -/
theorem fold_min_at {n : ℕ} (f : Fin n → EReal) (k : Fin n) (h : ∀ j, f k ≤ f j) :
    Finset.fold min ⊤ f Finset.univ = f k :=
  le_antisymm (Finset.fold_min_le (f k) |>.mpr (Or.inr ⟨k, Finset.mem_univ k, le_rfl⟩))
    (Finset.le_fold_min (f k) |>.mpr ⟨le_top, fun j _ => h j⟩)

/-- The maximum of real values is one of them. -/
theorem fold_max_real (f : Fin 10000 → ℝ) :
    ∃ k, Finset.fold max ⊥ (fun j => (f j : EReal)) Finset.univ = (f k : EReal) ∧ ∀ j, f j ≤ f k := by
  obtain ⟨k, _, h⟩ := Finset.exists_max_image Finset.univ f ⟨0, Finset.mem_univ 0⟩
  exact ⟨k, fold_max_at (fun j => (f j : EReal)) k fun j => EReal.coe_le_coe_iff.mpr (h j (Finset.mem_univ j)),
    fun j => h j (Finset.mem_univ j)⟩

/-- Words of places that are no smaller leave a place the signed minimum. -/
theorem minsi_fold_le {ι : Type} [DecidableEq ι] (g : ι → ℕ) (a : ℕ) (ha : a < 2 ^ 31) (s : Finset ι)
    (h : ∀ k ∈ s, a ≤ g k ∧ g k < 2 ^ 31) :
    IntOp.minsi (BitVec.ofNat 32 a) (Finset.fold IntOp.minsi 2147483647#32 (fun k => BitVec.ofNat 32 (g k)) s)
      = BitVec.ofNat 32 a := by
  induction s using Finset.induction_on with
  | empty =>
    show IntOp.minsi (BitVec.ofNat 32 a) (BitVec.ofNat 32 2147483647) = _
    rw [PlanTiles.minsi_word ha (by norm_num), Nat.min_eq_right (by omega)]
  | insert k s hk ih =>
    have hk' := h k (Finset.mem_insert_self k s)
    rw [Finset.fold_insert hk, ← Std.Associative.assoc (op := IntOp.minsi (w := 32)), PlanTiles.minsi_word ha hk'.2,
      Nat.min_eq_right hk'.1]
    exact ih fun j hj => h j (Finset.mem_insert_of_mem hj)

/-- The signed minimum of a row of words of places is the smallest place. -/
theorem minsi_fold_at (g : Fin 10000 → ℕ) (k : Fin 10000) (h : ∀ j, g k ≤ g j ∧ g j < 2 ^ 31) :
    Finset.fold IntOp.minsi 2147483647#32 (fun j => BitVec.ofNat 32 (g j)) Finset.univ = BitVec.ofNat 32 (g k) := by
  rw [← Finset.insert_erase (Finset.mem_univ k), Finset.fold_insert (Finset.notMem_erase k _)]
  exact minsi_fold_le g (g k) (h k).2 _ fun j _ => h j

/-- Data whose read quantities are numbers of a bounded size. -/
structure Num (D : Data) where
  u : Fin 10000 → ℝ
  s : Fin 10000 → ℝ
  a : ℝ
  b : ℝ
  g : ℝ
  e1 : Fin 10000 → ℝ
  e2 : Fin 10000 → ℝ
  u_eq : ∀ i, D.u i = u i
  s_eq : ∀ i, D.s i = s i
  a_eq : D.a = a
  b_eq : D.b = b
  g_eq : D.g = g
  e1_eq : ∀ i, D.e1 i = e1 i
  e2_eq : ∀ i, D.e2 i = e2 i
  u_le : ∀ i, |u i| ≤ 2 ^ 60
  s_le : ∀ i, |s i| ≤ 2 ^ 60
  a_le : |a| ≤ 2 ^ 60
  b_le : |b| ≤ 2 ^ 60
  g_le : |g| ≤ 2 ^ 60

variable {D : Data} (X : Num D)

/-- The squared length and the squared distance as numbers. -/
def Num.len (i : Fin 10000) : ℝ := X.e1 i * X.e1 i + X.e2 i * X.e2 i
def Num.far (i k : Fin 10000) : ℝ := (X.e1 i - X.e1 k) ^ 2 + (X.e2 i - X.e2 k) ^ 2

/-- A squared length is that number. -/
theorem Num.len_eq (i : Fin 10000) : sq D i = (X.len i : EReal) := by
  unfold Velo.sq Num.len
  rw [X.e1_eq, X.e2_eq, ← EReal.coe_mul, ← EReal.coe_mul, ← EReal.coe_add]

/-- A squared distance, expanded, is the sum of the squared differences. -/
theorem Num.far_eq (i k : Fin 10000) : dist D i k = (X.far i k : EReal) := by
  unfold Velo.dist Num.far
  rw [X.len_eq, X.len_eq, X.e1_eq, X.e2_eq, X.e1_eq, X.e2_eq, Search.two, ← EReal.coe_mul, ← EReal.coe_mul, ← EReal.coe_add,
    ← EReal.coe_add, ← EReal.coe_mul, ← EReal.coe_sub, EReal.coe_eq_coe_iff]
  unfold Num.len
  ring

/-- A squared length is not negative. -/
theorem Num.len_nonneg (i : Fin 10000) : 0 ≤ X.len i := add_nonneg (mul_self_nonneg _) (mul_self_nonneg _)
/-- A squared distance is not negative. -/
theorem Num.far_nonneg (i k : Fin 10000) : 0 ≤ X.far i k := by unfold Num.far; positivity
/-- A cell is at distance zero from itself. -/
theorem Num.far_self (i : Fin 10000) : X.far i i = 0 := by unfold Num.far; ring

/-- The thirty nearest of every cell stand apart from the others, and are not all close at hand. -/
structure Num.Apart : Prop where
  gap : ∀ i, X.far i (order D i 29) * 193 < X.far i (order D i 30) * 192
  spread : ∀ i k, 1 + X.len k ≤ X.far i (order D i 29) * 7000

/-- Distances rise along the order. -/
theorem Num.far_order (i : Fin 10000) {j l : Fin 10000} (h : j ≤ l) : X.far i (order D i j) ≤ X.far i (order D i l) := by
  have := Order.falling_le (fun k => -dist D i k) h
  unfold order
  rwa [EReal.neg_le_neg_iff, X.far_eq, X.far_eq, EReal.coe_le_coe_iff] at this

/-- The thirty nearest. -/
def nearest (D : Data) (i : Fin 10000) : Finset (Fin 10000) :=
  Finset.univ.image fun j : Fin 30 => order D i ⟨j.val, by omega⟩

/-- The thirty nearest are the first thirty of the order. -/
theorem mem_nearest {i k : Fin 10000} : k ∈ nearest D i ↔ ∃ j : Fin 10000, j.val < 30 ∧ order D i j = k := by
  unfold nearest
  simp only [Finset.mem_image, Finset.mem_univ, true_and]
  exact ⟨fun ⟨j, h⟩ => ⟨⟨j.val, by omega⟩, j.isLt, h⟩, fun ⟨j, hj, h⟩ => ⟨⟨j.val, hj⟩, h⟩⟩

/-- The order names no cell twice. -/
theorem order_injective (i : Fin 10000) : Function.Injective (order D i) := Order.falling_injective _
/-- The order names every cell. -/
theorem order_surjective (i : Fin 10000) : Function.Surjective (order D i) := Order.falling_surjective _

/-- A row whose thirty nearest stand apart is as the search wants it. -/
theorem Num.apart (h : X.Apart) (i : Fin 10000) :
    Search.Apart (X.far i) (nearest D i) (X.far i (order D i 29)) (X.far i (order D i 30)) where
  card := by
    unfold nearest
    rw [Finset.card_image_of_injective]
    · rfl
    · intro a b hab
      have := order_injective i hab
      exact Fin.ext (Fin.mk.inj this)
  le k hk := by
    obtain ⟨j, hj, rfl⟩ := mem_nearest.mp hk
    exact X.far_order i (Fin.le_def.mpr (by show j.val ≤ 29; omega))
  at_near := ⟨_, mem_nearest.mpr ⟨29, by decide, rfl⟩, rfl⟩
  ge k hk := by
    obtain ⟨j, rfl⟩ := order_surjective (D := D) i k
    have hj : ¬ j.val < 30 := fun hj => hk (mem_nearest.mpr ⟨j, hj, rfl⟩)
    exact X.far_order i (Fin.le_def.mpr (by show 30 ≤ j.val; omega))
  at_next := by
    refine ⟨_, fun hk => ?_, rfl⟩
    obtain ⟨j, hj, e⟩ := mem_nearest.mp hk
    have := order_injective i e
    rw [this] at hj
    exact absurd hj (by decide)
  gap := h.gap i
  pos := by have := h.spread i i; have := X.len_nonneg i; linarith

include X

/-- The smallest distance is the one to the cell itself. -/
theorem Num.least_eq (i : Fin 10000) : least D i = 0 := by
  unfold least
  rw [Search.top, fold_min_at _ i fun k => ?_]
  · rw [X.far_eq, X.far_self]; rfl
  · rw [X.far_eq, X.far_eq, X.far_self]
    exact EReal.coe_le_coe_iff.mpr (X.far_nonneg i k)

/-- The bracket's upper end is a number over every distance and within a constant of the largest squared length. -/
theorem Num.reach_eq (i : Fin 10000) : ∃ (k : Fin 10000) (R : ℝ), reach D i = R ∧ (∀ j, X.far i j ≤ R) ∧
    R ≤ 4.2 * X.len k + 1 := by
  obtain ⟨k, hk, hm⟩ := fold_max_real X.len
  obtain ⟨w, hw, w1, w2⟩ := Search.widened
  have pi := X.len_nonneg i
  have pk := X.len_nonneg k
  refine ⟨k, (Real.sqrt (X.len i) + Real.sqrt (X.len k)) * (Real.sqrt (X.len i) + Real.sqrt (X.len k)) * w + 1, ?_, fun j => ?_, ?_⟩
  · unfold reach
    simp only [X.len_eq]
    rw [Search.bottom, hk, hw, Ideal.sqrt_coe, Ideal.sqrt_coe, if_neg (not_lt.mpr pi), if_neg (not_lt.mpr pk), ← EReal.coe_add,
      ← EReal.coe_mul, ← EReal.coe_mul, EReal.coe_add, EReal.coe_one]
  · have s1 := Real.sq_sqrt pi
    have s2 := Real.sq_sqrt pk
    have s3 := Real.sq_sqrt (X.len_nonneg j)
    have n1 := Real.sqrt_nonneg (X.len i)
    have n2 := Real.sqrt_nonneg (X.len k)
    have n3 := Real.sqrt_nonneg (X.len j)
    have l : Real.sqrt (X.len j) ≤ Real.sqrt (X.len k) := Real.sqrt_le_sqrt (hm j)
    have c : -(X.e1 i * X.e1 j + X.e2 i * X.e2 j) ≤ Real.sqrt (X.len i) * Real.sqrt (X.len j) := by
      rw [← Real.sqrt_mul pi]
      apply Real.le_sqrt_of_sq_le
      unfold Num.len
      nlinarith [sq_nonneg (X.e1 i * X.e2 j - X.e2 i * X.e1 j)]
    have d : X.far i j = X.len i + X.len j - 2 * (X.e1 i * X.e1 j + X.e2 i * X.e2 j) := by
      unfold Num.far Num.len; ring
    have q : X.far i j ≤ (Real.sqrt (X.len i) + Real.sqrt (X.len k)) * (Real.sqrt (X.len i) + Real.sqrt (X.len k)) := by
      rw [d]
      nlinarith [mul_le_mul_of_nonneg_left l n1, mul_self_le_mul_self n3 l]
    have q0 : 0 ≤ (Real.sqrt (X.len i) + Real.sqrt (X.len k)) * (Real.sqrt (X.len i) + Real.sqrt (X.len k)) := by positivity
    nlinarith
  · have l : Real.sqrt (X.len i) ≤ Real.sqrt (X.len k) := Real.sqrt_le_sqrt (hm i)
    have s2 := Real.mul_self_sqrt pk
    have n1 := Real.sqrt_nonneg (X.len i)
    have q : (Real.sqrt (X.len i) + Real.sqrt (X.len k)) * (Real.sqrt (X.len i) + Real.sqrt (X.len k)) ≤ 4 * X.len k := by
      nlinarith
    nlinarith

/-- The search ends with a radius that holds the thirty nearest and no other. -/
theorem Num.in_radius (h : X.Apart) (i k : Fin 10000) : dist D i k ≤ radius D i ↔ k ∈ nearest D i := by
  have ha := X.apart h i
  obtain ⟨k0, R, hR, h1, h2⟩ := X.reach_eq i
  have hd : (fun k => dist D i k) = fun k => (X.far i k : EReal) := funext fun k => X.far_eq i k
  obtain ⟨t, ht, t1, t2⟩ := Search.found ha (s := ⟨least D i, reach D i, least D i, 0#1⟩) rfl (X.least_eq i) (hi := R) hR
    (h1 _) (by have := h.spread i k0; have := X.len_nonneg k0; linarith)
  unfold radius
  rw [hd, ht, X.far_eq, EReal.coe_le_coe_iff]
  refine ⟨fun hk => ?_, fun hk => (ha.le k hk).trans t1⟩
  by_contra hn
  have := ha.ge k hn
  linarith

/-- The first place of the smallest distance begins the order. -/
theorem Num.first_eq (i : Fin 10000) : first D i = BitVec.ofNat 32 (order D i 0).val := by
  have h0 : X.far i (order D i 0) = 0 := by
    obtain ⟨j, hj⟩ := order_surjective (D := D) i i
    have := X.far_order i (Fin.zero_le j)
    rw [hj, X.far_self] at this
    exact le_antisymm this (X.far_nonneg _ _)
  have hP : ∀ k, dist D i k ≤ least D i ↔ X.far i k ≤ 0 := fun k => by
    rw [X.least_eq, X.far_eq, ← EReal.coe_zero, EReal.coe_le_coe_iff]
  unfold first
  have e : ∀ k : Fin 10000, (if dist D i k ≤ least D i then BitVec.ofNat 32 k.val else 2147483647#32)
      = BitVec.ofNat 32 (if X.far i k ≤ 0 then k.val else 2147483647) := fun k => by
    by_cases hk : X.far i k ≤ 0
    · rw [if_pos ((hP k).mpr hk), if_pos hk]
    · rw [if_neg (mt (hP k).mp hk), if_neg hk]
  simp only [e]
  rw [minsi_fold_at _ (order D i 0) fun k => ?_, if_pos h0.le]
  rw [if_pos h0.le]
  by_cases hk : X.far i k ≤ 0
  · rw [if_pos hk]
    refine ⟨?_, by omega⟩
    obtain ⟨j, rfl⟩ := order_surjective (D := D) i k
    rcases (Fin.zero_le j).lt_or_eq with hj | hj
    · rcases Order.falling_order (fun k => -dist D i k) hj with hl | hl
      · exfalso
        rw [EReal.neg_lt_neg_iff] at hl
        change dist D i (order D i 0) < dist D i (order D i j) at hl
        rw [X.far_eq, X.far_eq, EReal.coe_lt_coe_iff, h0] at hl
        linarith
      · exact (Fin.lt_def.mp hl.2).le
    · rw [hj]
  · rw [if_neg hk]
    exact ⟨by omega, by norm_num⟩

/-- The kernel selects the reference's neighbours. -/
theorem Num.selected (h : X.Apart) (i k : Fin 10000) :
    IntOp.andi (BitVec.ofBool (decide (dist D i k ≤ radius D i))) (IntOp.cmpi .ne (BitVec.ofNat 32 k.val) (first D i)) = 1#1
      ↔ ∃ j, nbr D i j = k := by
  have hne : IntOp.cmpi .ne (BitVec.ofNat 32 k.val) (first D i) = BitVec.ofBool (decide (k ≠ order D i 0)) := by
    rw [X.first_eq i]
    unfold IntOp.cmpi
    congr 1
    by_cases hk : k = order D i 0
    · rw [hk]; simp
    · have : BitVec.ofNat 32 k.val ≠ BitVec.ofNat 32 (order D i 0).val := fun e => hk (Fin.ext (by
        have := congrArg BitVec.toNat e
        simp only [BitVec.toNat_ofNat] at this
        omega))
      simp [this, hk]
  have hand : ∀ p q : Bool, IntOp.andi (BitVec.ofBool p) (BitVec.ofBool q) = 1#1 ↔ p = true ∧ q = true := by decide
  rw [hne, hand, decide_eq_true_iff, decide_eq_true_iff, X.in_radius h i k, mem_nearest]
  constructor
  · rintro ⟨⟨j, hj, rfl⟩, hn⟩
    have : j.val ≠ 0 := fun e => hn (congrArg _ (Fin.ext e))
    exact ⟨⟨j.val - 1, by omega⟩, congrArg (order D i) (Fin.ext (by show 1 + (j.val - 1) = j.val; omega))⟩
  · rintro ⟨j, rfl⟩
    refine ⟨⟨⟨1 + j.val, by omega⟩, by show 1 + j.val < 30; omega, rfl⟩, fun e => ?_⟩
    have := Fin.val_eq_of_eq (order_injective i e)
    change 1 + j.val = 0 at this
    omega

end Cert.Velo

end
-- ==== Proof.Best.lean ====
/- The largest cosine of a row: where the neighbours are the selected cells, the largest score over the increment's length
   is the largest cosine, and the sum over the grid's points is the mean over the cells. -/
module

public import proofs.«01_k».proof.Proof.Near

@[expose] public section

set_option maxRecDepth 16384

noncomputable section

namespace Cert.Velo

open Idealize.ShloMosaic

/-- The logistic function's values are numbers between zero and one. -/
theorem logistic_real (x : EReal) : ∃ r : ℝ, Ideal.logistic x = r ∧ 0 ≤ r ∧ r ≤ 1 := by
  induction x using EReal.rec with
  | bot => exact ⟨0, by rw [Ideal.logistic_bot, EReal.coe_zero], le_rfl, zero_le_one⟩
  | top => exact ⟨1, by rw [Ideal.logistic_top, EReal.coe_one], zero_le_one, le_rfl⟩
  | coe r =>
    have := Real.exp_pos (-r)
    exact ⟨(1 + Real.exp (-r))⁻¹, Ideal.logistic_coe _, by positivity, inv_le_one_of_one_le₀ (by linarith)⟩

/-- A number of a bounded size times a number of a bounded size. -/
theorem abs_mul_bound {x y p q : ℝ} (hx : |x| ≤ p) (hy : |y| ≤ q) : |x * y| ≤ p * q := by
  rw [abs_mul]
  exact mul_le_mul hx hy (abs_nonneg _) ((abs_nonneg _).trans hx)

variable {D : Data} (X : Num D)

include X

/-- A rate is a bounded number. -/
theorem Num.rate (i : Fin 10000) (o : Fin 3) {x : EReal} {y : ℝ} (hx : x = y) (hy : |y| ≤ 2 ^ 60) :
    ∃ r : ℝ, gate D i o * x = r ∧ |r| ≤ 2 ^ 60 := by
  obtain ⟨r, hr, h0, h1⟩ := logistic_real (∑ k, hid D i k * D.w2 k o + D.b2 o)
  refine ⟨r * y, ?_, ?_⟩
  · rw [hx, EReal.coe_mul, ← hr]; rfl
  · have := abs_mul_bound (p := 1) (by rw [abs_of_nonneg h0]; exact h1 : |r| ≤ 1) hy
    linarith

/-- The increments are bounded numbers. -/
theorem Num.increments (i : Fin 10000) :
    ∃ p q : ℝ, du D i = p ∧ ds D i = q ∧ |p| ≤ 2 ^ 120 ∧ |q| ≤ 2 ^ 120 := by
  obtain ⟨a, ha, ba⟩ := X.rate i 0 X.a_eq X.a_le
  obtain ⟨b, hb, bb⟩ := X.rate i 1 X.b_eq X.b_le
  obtain ⟨g, hg, bg⟩ := X.rate i 2 X.g_eq X.g_le
  have b1 := abs_le.mp (abs_mul_bound bb (X.u_le i))
  have b2 := abs_le.mp (abs_mul_bound bg (X.s_le i))
  have ba := abs_le.mp ba
  refine ⟨(a - b * X.u i) * (1 / 2), (b * X.u i - g * X.s i) * (1 / 2), ?_, ?_, ?_, ?_⟩
  · unfold du al be half
    rw [ha, hb, X.u_eq, Search.one_half, ← EReal.coe_mul, ← EReal.coe_sub, ← EReal.coe_mul]
  · unfold ds be ga half
    rw [hb, hg, X.u_eq, X.s_eq, Search.one_half, ← EReal.coe_mul, ← EReal.coe_mul, ← EReal.coe_sub, ← EReal.coe_mul]
  · rw [abs_le]
    constructor <;> linarith
  · rw [abs_le]
    constructor <;> linarith

/-- The velocity is the increment. -/
theorem Num.velocity (i : Fin 10000) : vu D i = du D i ∧ vs D i = ds D i := by
  obtain ⟨p, q, hp, hq, _⟩ := X.increments i
  constructor
  · unfold vu u1
    rw [hp, X.u_eq, ← EReal.coe_add, ← EReal.coe_sub, add_sub_cancel_left]
  · unfold vs s1
    rw [hq, X.s_eq, ← EReal.coe_add, ← EReal.coe_sub, add_sub_cancel_left]

/-- The length that is divided by is a positive number, bounded like the increments. -/
theorem Num.length (i : Fin 10000) :
    ∃ L : ℝ, Ideal.sqrt (max (dd D i) tiny) = L ∧ 0 < L ∧ L ≤ 2 ^ 126 ∧
      ∀ p q : ℝ, du D i = p → ds D i = q → p * p + q * q ≤ L ^ 2 := by
  obtain ⟨p, q, hp, hq, bp, bq⟩ := X.increments i
  obtain ⟨e, he, e0, e1⟩ := Search.least_divisor
  have hm : 0 < max (p * p + q * q) e := lt_max_of_lt_right e0
  refine ⟨Real.sqrt (max (p * p + q * q) e), ?_, Real.sqrt_pos.mpr hm, ?_, fun p' q' hp' hq' => ?_⟩
  · unfold dd tiny
    rw [hp, hq, he, ← EReal.coe_mul, ← EReal.coe_mul, ← EReal.coe_add, ← EReal.coe_strictMono.monotone.map_max,
      Ideal.sqrt_coe, if_neg (not_lt.mpr hm.le)]
  · rw [Real.sqrt_le_left (by positivity)]
    refine max_le ?_ (e1.trans (by norm_num))
    have h1 := abs_mul_bound bp bp
    have h2 := abs_mul_bound bq bq
    have := le_abs_self (p * p)
    have := le_abs_self (q * q)
    norm_num at h1 h2 ⊢
    linarith
  · rw [hp] at hp'
    rw [hq] at hq'
    rw [← EReal.coe_eq_coe_iff.mp hp', ← EReal.coe_eq_coe_iff.mp hq', Real.sq_sqrt hm.le]
    exact le_max_left _ _

/-- A score is a number no smaller than minus the length, and over the length it is the cosine. -/
theorem Num.score_eq (i k : Fin 10000) {L : ℝ} (hL : Ideal.sqrt (max (dd D i) tiny) = L) (h0 : 0 < L)
    (hl : ∀ p q : ℝ, du D i = p → ds D i = q → p * p + q * q ≤ L ^ 2) :
    ∃ r : ℝ, score D i k = r ∧ -L ≤ r ∧ (0 < dd D i → cosine D i k = ((r * (1 / L) : ℝ) : EReal)) ∧
      (¬ 0 < dd D i → cosine D i k = 1) := by
  obtain ⟨p, q, hp, hq, bp, bq⟩ := X.increments i
  obtain ⟨e, he, e0, e1⟩ := Search.least_divisor
  have hpq := hl p q hp hq
  obtain ⟨v1, v2⟩ := X.velocity i
  have hvv : vv D i = dd D i := by unfold vv dd; rw [v1, v2]
  have hn : ∃ x y : ℝ, nu D i k = x ∧ ns D i k = y := ⟨X.u k - X.u i, X.s k - X.s i, by
    unfold nu; rw [X.u_eq, X.u_eq, EReal.coe_sub], by unfold ns; rw [X.s_eq, X.s_eq, EReal.coe_sub]⟩
  obtain ⟨x, y, hx, hy⟩ := hn
  have hnn : nn D i k = ((x * x + y * y : ℝ) : EReal) := by
    unfold nn; rw [hx, hy, EReal.coe_add, EReal.coe_mul, EReal.coe_mul]
  have hm : 0 < max (x * x + y * y) e := lt_max_of_lt_right e0
  have hmax : max (nn D i k) tiny = ((max (x * x + y * y) e : ℝ) : EReal) := by
    unfold tiny; rw [hnn, he, EReal.coe_strictMono.monotone.map_max]
  have hs : Ideal.sqrt (max (nn D i k) tiny) = ((Real.sqrt (max (x * x + y * y) e) : ℝ) : EReal) := by
    rw [hmax, Ideal.sqrt_coe, if_neg (not_lt.mpr hm.le)]
  have hr : Ideal.rsqrt (max (nn D i k) tiny) = (((Real.sqrt (max (x * x + y * y) e))⁻¹ : ℝ) : EReal) := by
    rw [hmax, Ideal.rsqrt_coe, if_neg (not_lt.mpr hm.le), if_neg hm.ne']
  have hM := Real.sqrt_pos.mpr hm
  have hM2 := Real.sq_sqrt hm.le
  have hMx : x * x + y * y ≤ max (x * x + y * y) e := le_max_left _ _
  generalize Real.sqrt (max (x * x + y * y) e) = M at hs hr hM hM2
  generalize max (x * x + y * y) e = m at hM2 hMx
  have hpos : (0 < nn D i k) = (0 < x * x + y * y) := by
    rw [hnn, ← EReal.coe_zero, EReal.coe_lt_coe_iff]
  have hand : ∀ P Q : Prop, ∀ [Decidable P] [Decidable Q], IntOp.andi (BitVec.ofBool (decide P)) (BitVec.ofBool (decide Q))
      = BitVec.ofBool (decide (P ∧ Q)) := fun P Q _ _ => by by_cases hP : P <;> by_cases hQ : Q <;> simp [hP, hQ, IntOp.andi]
  unfold score cosine
  rw [hand, hvv, hs, hL, hr, v1, v2, hx, hy, hp, hq]
  by_cases hd : 0 < nn D i k
  · refine ⟨(x * p + y * q) * M⁻¹, ?_, ?_, fun h => ?_, fun h => ?_⟩
    · rw [if_pos hd, EReal.coe_mul, EReal.coe_add, EReal.coe_mul, EReal.coe_mul]
    · have c : |x * p + y * q| ≤ M * L := by
        apply abs_le_of_sq_le_sq _ (by positivity)
        have : (x * x + y * y) * (p * p + q * q) ≤ M ^ 2 * L ^ 2 :=
          mul_le_mul (by linarith) hpq (by nlinarith [mul_self_nonneg p, mul_self_nonneg q]) (by positivity)
        nlinarith [sq_nonneg (x * q - y * p)]
      have := (abs_le.mp c).1
      rw [← div_eq_mul_inv, le_div_iff₀ hM]
      linarith
    · rw [decide_eq_true (⟨hd, h⟩ : 0 < nn D i k ∧ 0 < dd D i)]
      show Ideal.div _ _ = _
      rw [← EReal.coe_mul x p, ← EReal.coe_mul y q, ← EReal.coe_add, ← EReal.coe_mul M L,
        Ideal.div_coe (by positivity : M * L ≠ 0), ← EReal.coe_mul, EReal.coe_eq_coe_iff]
      field_simp
    · rw [decide_eq_false (fun g => h g.2 : ¬ (0 < nn D i k ∧ 0 < dd D i))]
      rfl
  · refine ⟨L, ?_, by linarith, fun h => ?_, fun h => ?_⟩
    · rw [if_neg hd]
    · rw [decide_eq_false (fun g => hd g.1 : ¬ (0 < nn D i k ∧ 0 < dd D i)), mul_one_div_cancel h0.ne', EReal.coe_one]
      rfl
    · rw [decide_eq_false (fun g => h g.2 : ¬ (0 < nn D i k ∧ 0 < dd D i))]
      rfl

/-- The kernel's largest cosine is the reference's, and a number. -/
theorem Num.found_eq (h : X.Apart) (i : Fin 10000) : ∃ r : ℝ, found D i = r ∧ best D i = r := by
  obtain ⟨L, hL, h0, h1, hl⟩ := X.length i
  have hs := fun k => X.score_eq i k hL h0 hl
  choose r hr hb hc h1c using hs
  obtain ⟨j, _, hj⟩ := Finset.exists_max_image Finset.univ (fun j : Fin 29 => r (nbr D i j)) ⟨0, Finset.mem_univ 0⟩
  obtain ⟨w, hw, hw1⟩ := Search.worst_score
  have hsel : ∀ k, ∃ y : ℝ, Scalar.select (IntOp.andi (BitVec.ofBool (decide (dist D i k ≤ radius D i)))
      (IntOp.cmpi .ne (BitVec.ofNat 32 k.val) (first D i))) (score D i k) (Ideal.ofBits .f32 0xFF7FC99E#32) = y ∧
      y ≤ r (nbr D i j) ∧ (k = nbr D i j → y = r (nbr D i j)) := fun k => by
    unfold Scalar.select
    by_cases hk : ∃ l, nbr D i l = k
    · refine ⟨r k, (if_pos ((X.selected h i k).mpr hk)).trans (hr k), ?_, fun e => by rw [e]⟩
      obtain ⟨l, rfl⟩ := hk
      exact hj l (Finset.mem_univ l)
    · refine ⟨-w, (if_neg (mt (X.selected h i k).mp hk)).trans hw, ?_, fun e => (hk ⟨j, e.symm⟩).elim⟩
      have := hb (nbr D i j)
      linarith
  choose y hy hy1 hy2 using hsel
  have hp : pick D i = r (nbr D i j) := by
    unfold pick
    rw [Search.bottom]
    simp only [hy]
    have := fold_max_at (fun k => (y k : EReal)) (nbr D i j) fun k => by
      rw [hy2 _ rfl]
      exact EReal.coe_le_coe_iff.mpr (hy1 k)
    rw [this, hy2 _ rfl]
  unfold found best
  rw [Search.bottom]
  by_cases hd : 0 < dd D i
  · refine ⟨r (nbr D i j) * (1 / L), ?_, ?_⟩
    · rw [if_pos hd, hL, hp, Ideal.div_coe h0.ne', EReal.coe_mul]
    · simp only [fun l => hc l hd]
      exact fold_max_at (fun l : Fin 29 => ((r (nbr D i l) * (1 / L) : ℝ) : EReal)) j fun l =>
        EReal.coe_le_coe_iff.mpr (mul_le_mul_of_nonneg_right (hj l (Finset.mem_univ l)) (by positivity))
  · refine ⟨1, ?_, ?_⟩
    · rw [if_neg hd, EReal.coe_one]
    · simp only [fun l => h1c l hd]
      rw [fold_max_at (fun _ : Fin 29 => (1 : EReal)) 0 fun _ => le_rfl, EReal.coe_one]

omit X

/-- A sum of numbers over the cells is a sum over blocks. -/
theorem sum_blocks (f : Fin 10000 → ℝ) :
    ∑ p : Fin 50, ∑ r : Fin 200, f ⟨200 * p.val + r.val, by omega⟩ = ∑ i, f i := by
  rw [← (finProdFinEquiv (m := 50) (n := 200)).sum_comp (fun i : Fin (50 * 200) => f i), Fintype.sum_prod_type]
  refine Finset.sum_congr rfl fun p _ => Finset.sum_congr rfl fun r _ => congrArg f (Fin.ext ?_)
  show 200 * p.val + r.val = r.val + 200 * p.val
  omega

/-- A sum of numbers among the extended reals. -/
theorem sum_real {n : ℕ} (f : Fin n → ℝ) : ∑ i, (f i : EReal) = ((∑ i, f i : ℝ) : EReal) := by
  induction n with
  | zero => simp
  | succ n ih => rw [Fin.sum_univ_succ, Fin.sum_univ_succ, ih, EReal.coe_add]

include X in
/-- The kernel's sum over the points of the grid is the reference's mean. -/
theorem Num.cost_eq (h : X.Apart) :
    ∑ p : Fin 50, (∑ r : Fin 200, (1 - found D ⟨200 * p.val + r.val, by omega⟩)) * ((1 / 10000 : ℝ) : EReal) = cost D := by
  choose c hc hb using X.found_eq h
  have e : ∀ i, (1 : EReal) - c i = ((1 - c i : ℝ) : EReal) := fun i => by rw [EReal.coe_sub, EReal.coe_one]
  unfold cost
  simp only [hc, hb, e]
  rw [Search.cells_value, Ideal.div_coe (by norm_num), sum_real, ← EReal.coe_mul]
  simp only [sum_real, ← EReal.coe_mul]
  rw [← Finset.sum_mul, sum_blocks fun i => 1 - c i]

end Cert.Velo

end
-- ==== Proof.Pre.lean ====
/- The precondition read cell by cell: the thirty nearest stand apart and the quantities are bounded numbers. -/
module

public import proofs.«01_k».proof.Defs
public import proofs.«01_k».proof.Proof.RefCost
public import proofs.«01_k».proof.Proof.Near

@[expose] public section

set_option maxRecDepth 16384

noncomputable section

namespace Cert.ReferenceIdeal.Ref

open Cert.ReferenceIdeal Cert.ReferenceIdeal.Gen Cert.ReferenceIdeal.Read
open Idealize.ShloMosaic Idealize.ShloMosaic.TcCoe Idealize.SL.Sem

/-- The side conditions of the precondition. -/
theorem pre_facts : Cert.Pre_thirty_nearest_apart.Facts where
  bcast_S10000_S10000x1_0 := by decide
  concatenates_S10000x1_S10000x1_S10000x2_d1 := by decide
  reducesTo_S10000x2_S10000_d1 := by decide
  h_S_ := by decide
  bcast_S10000_S1x10000_1 := by decide
  bcast_S10000x1_S10000x10000_0_1 := by decide
  bcast_S1x10000_S10000x10000_0_1 := by decide
  transposes_S10000x2_S2x10000_1_0 := by decide
  bcast_S_S10000x10000 := by decide
  sliceFits_S10000x10000_S10000x31 := by decide
  slices_S10000x31_S10000x1_0_29 := by decide
  shapeCasts_S10000x1_S10000 := by decide
  slices_S10000x31_S10000x1_0_30 := by decide
  bcast_S_S10000 := by decide
  reducesTo_S10000_S_d0 := by decide
  bcast_S_S1 := by decide
  bcast_S1_S10000_0 := by decide
  dot_S10000x2_S2x10000_S10000x10000_1_0_0_1_n_n_wf := by decide

variable (A : Args)

abbrev S10000x31 : Shape := ⟨2, ![10000, 31]⟩
abbrev S10000x1 : Shape := ⟨2, ![10000, 1]⟩

/-- The thirty-one nearest distances of each cell, negated. -/
def values : FVec Ideal S10000x31 .f32 :=
  (Host.topK S10000x31 1 (FloatOps.cmpfTotal (F := Ideal) (φ := .f32) .gt) (val_main_v15 (F := Ideal) A.a5 A.a6)
    pre_facts.sliceFits_S10000x10000_S10000x31).1

/-- They are the distances in the order of nearness, negated. -/
theorem values_apply (i : Fin 10000) (p : Fin 31) :
    values A (ix2 i p) = -Velo.dist A.data i (Velo.order A.data i (p.castLE (by omega))) := by
  unfold values
  refine (Velo.Order.top_values (N := 10000) (K := 31) (by omega) _ _ i p).trans ?_
  simp only [v15_apply]
  rfl

/-- The distance to the thirtieth and to the thirty-first. -/
def near : FVec Ideal S10000 .f32 := Host.negf (shapeCast S10000 (extractStridedSlice S10000x1 ![0, 29] (values A)
  pre_facts.slices_S10000x31_S10000x1_0_29) pre_facts.shapeCasts_S10000x1_S10000)
def after : FVec Ideal S10000 .f32 := Host.negf (shapeCast S10000 (extractStridedSlice S10000x1 ![0, 30] (values A)
  pre_facts.slices_S10000x31_S10000x1_0_30) pre_facts.shapeCasts_S10000x1_S10000)

/-- The distance to the thirtieth. -/
theorem near_apply (i : Fin 10000) : near A (ix1 i) = Velo.dist A.data i (Velo.order A.data i 29) := by
  unfold near
  pointwise
  rw [values_apply, neg_neg]
  rfl

/-- The distance to the thirty-first. -/
theorem after_apply (i : Fin 10000) : after A (ix1 i) = Velo.dist A.data i (Velo.order A.data i 30) := by
  unfold after
  pointwise
  rw [values_apply, neg_neg]
  rfl

/-- The bound of the squared lengths. -/
def large : FVec Ideal S_ .f32 :=
  addf (constant S_ .f32 0x3F800000#32) (Host.reduce FloatOps.maximumf (val_main_v4 (F := Ideal) A.a5 A.a6) (constant S_ .f32 0xFF800000#32)
    pre_facts.reducesTo_S10000_S_d0 pre_facts.h_S_)

/-- The bound is one more than the largest squared length. -/
theorem large_apply (j : S_.Idx) : large A j
    = 1 + Finset.fold max (Ideal.ofBits .f32 0xFF800000#32) (fun k => Velo.sq A.data k) Finset.univ := by
  unfold large
  pointwise
  simp only [v4_apply]

/-- Bounded arrays. -/
def small (x : FVec Ideal S10000 .f32) : IVec S10000 1 :=
  cmpf .ole (Host.absf x) (broadcastInDim S10000 ![] pre_facts.bcast_S_S10000 (constant S_ .f32 0x5D800000#32))
def small1 (x : FVec Ideal S1 .f32) : IVec S10000 1 :=
  broadcastInDim S10000 ![0] pre_facts.bcast_S1_S10000_0
    (cmpf .ole (Host.absf x) (broadcastInDim S1 ![] pre_facts.bcast_S_S1 (constant S_ .f32 0x5D800000#32)))

/-- The test of a bounded array at a cell. -/
theorem small_apply (x : FVec Ideal S10000 .f32) (i : Fin 10000) : small x (ix1 i)
    = BitVec.ofBool (decide (max (x (ix1 i)) (-x (ix1 i)) ≤ Ideal.ofBits .f32 0x5D800000#32)) := by
  pointwise [small]
  rfl

/-- The test of a bounded rate at a cell. -/
theorem small1_apply (x : FVec Ideal S1 .f32) (i : Fin 10000) : small1 x (ix1 i)
    = BitVec.ofBool (decide (max (x (ix1 0)) (-x (ix1 0)) ≤ Ideal.ofBits .f32 0x5D800000#32)) := by
  pointwise [small1]
  rfl

/-- The two comparisons of the distances. -/
def gaps : IVec S10000 1 :=
  cmpf .ogt (mulf (after A) (broadcastInDim S10000 ![] pre_facts.bcast_S_S10000 (constant S_ .f32 0x43400000#32)))
    (mulf (near A) (broadcastInDim S10000 ![] pre_facts.bcast_S_S10000 (constant S_ .f32 0x43410000#32)))
def spreads : IVec S10000 1 :=
  cmpf .oge (mulf (near A) (broadcastInDim S10000 ![] pre_facts.bcast_S_S10000 (constant S_ .f32 0x45DAC000#32)))
    (broadcastInDim S10000 ![] pre_facts.bcast_S_S10000 (large A))

/-- The gap behind the thirtieth, at a cell. -/
theorem gaps_apply (i : Fin 10000) : gaps A (ix1 i) = BitVec.ofBool (decide
    (Velo.dist A.data i (Velo.order A.data i 29) * Ideal.ofBits .f32 0x43410000#32
      < Velo.dist A.data i (Velo.order A.data i 30) * Ideal.ofBits .f32 0x43400000#32)) := by
  pointwise [gaps]
  rw [near_apply, after_apply]

/-- The size of the distance to the thirtieth, at a cell. -/
theorem spreads_apply (i : Fin 10000) : spreads A (ix1 i) = BitVec.ofBool (decide
    (1 + Finset.fold max (Ideal.ofBits .f32 0xFF800000#32) (fun k => Velo.sq A.data k) Finset.univ
      ≤ Velo.dist A.data i (Velo.order A.data i 29) * Ideal.ofBits .f32 0x45DAC000#32)) := by
  pointwise [spreads]
  rw [near_apply, large_apply]

/-- The precondition as the conjunction of its tests. -/
theorem pre_eq (a7 : IVec S_ 32) : (letI := pre_facts; Cert.Pre_thirty_nearest_apart.fn (F := Ideal) A.a0 A.a1 A.a2 A.a3 A.a4 A.a5 A.a6 a7 A.a8 A.a9 A.a10 A.a11)
    = andi (andi (andi (andi (andi (andi (andi (andi (gaps A) (spreads A)) (small A.a5)) (small A.a6)) (small A.a0)) (small A.a1))
      (small1 A.a2)) (small1 A.a3)) (small1 A.a4) := by
  rfl

/-- Both of two tests. -/
theorem both_true : ∀ a b : BitVec 1, IntOp.andi a b = 1#1 → a = 1#1 ∧ b = 1#1 := by decide

/-- A test that came out true. -/
theorem test_true {P : Prop} [Decidable P] (h : BitVec.ofBool (decide P) = 1#1) : P := by
  by_contra hn
  rw [decide_eq_false hn] at h
  exact absurd h (by decide)

/-- A bounded value is a number. -/
theorem bounded_real {x : EReal} (h : BitVec.ofBool (decide (max x (-x) ≤ Ideal.ofBits .f32 0x5D800000#32)) = 1#1) :
    ∃ r : ℝ, x = r ∧ |r| ≤ 2 ^ 60 := by
  have h := test_true h
  rw [Velo.Search.bound_value] at h
  have h1 := (le_max_left x (-x)).trans h
  have h2 := (le_max_right x (-x)).trans h
  induction x using EReal.rec with
  | bot => rw [EReal.neg_bot] at h2; exact absurd h2 (not_le.mpr (EReal.coe_lt_top _))
  | top => exact absurd h1 (not_le.mpr (EReal.coe_lt_top _))
  | coe r =>
    refine ⟨r, rfl, abs_le.mpr ⟨?_, EReal.coe_le_coe_iff.mp h1⟩⟩
    rw [← EReal.coe_neg, EReal.coe_le_coe_iff] at h2
    linarith

/-- Where the precondition holds, the data are bounded numbers and the thirty nearest stand apart. -/
theorem apart_of (a7 : IVec S_ 32) (h : (letI := pre_facts; Cert.Pre_thirty_nearest_apart.fn (F := Ideal) A.a0 A.a1 A.a2 A.a3
    A.a4 A.a5 A.a6 a7 A.a8 A.a9 A.a10 A.a11) = fun _ => 1#1) : ∃ X : Velo.Num A.data, X.Apart := by
  rw [pre_eq] at h
  have hi : ∀ i : Fin 10000, _ := fun i => congrFun h (ix1 i)
  have t : ∀ i : Fin 10000, ((((((((gaps A (ix1 i) = 1#1 ∧ spreads A (ix1 i) = 1#1) ∧ small A.a5 (ix1 i) = 1#1)
      ∧ small A.a6 (ix1 i) = 1#1) ∧ small A.a0 (ix1 i) = 1#1) ∧ small A.a1 (ix1 i) = 1#1) ∧ small1 A.a2 (ix1 i) = 1#1)
      ∧ small1 A.a3 (ix1 i) = 1#1) ∧ small1 A.a4 (ix1 i) = 1#1) := fun i => by
    obtain ⟨h1, k8⟩ := both_true _ _ (hi i)
    obtain ⟨h1, k7⟩ := both_true _ _ h1
    obtain ⟨h1, k6⟩ := both_true _ _ h1
    obtain ⟨h1, k5⟩ := both_true _ _ h1
    obtain ⟨h1, k4⟩ := both_true _ _ h1
    obtain ⟨h1, k3⟩ := both_true _ _ h1
    obtain ⟨h1, k2⟩ := both_true _ _ h1
    obtain ⟨h1, k1⟩ := both_true _ _ h1
    exact ⟨⟨⟨⟨⟨⟨⟨⟨h1, k1⟩, k2⟩, k3⟩, k4⟩, k5⟩, k6⟩, k7⟩, k8⟩
  simp only [gaps_apply, spreads_apply, small_apply, small1_apply] at t
  choose e1 he1 be1 using fun i => bounded_real (t i).1.1.1.1.1.1.2
  choose e2 he2 be2 using fun i => bounded_real (t i).1.1.1.1.1.2
  choose u hu bu using fun i => bounded_real (t i).1.1.1.1.2
  choose s hs bs using fun i => bounded_real (t i).1.1.1.2
  obtain ⟨a, ha, ba⟩ := bounded_real (t 0).1.1.2
  obtain ⟨b, hb, bb⟩ := bounded_real (t 0).1.2
  obtain ⟨g, hg, bg⟩ := bounded_real (t 0).2
  let X : Velo.Num A.data := ⟨u, s, a, b, g, e1, e2, hu, hs, ha, hb, hg, he1, he2, bu, bs, ba, bb, bg⟩
  refine ⟨X, fun i => ?_, fun i k => ?_⟩
  · have := test_true (t i).1.1.1.1.1.1.1.1
    rwa [X.far_eq, X.far_eq, Velo.Search.gap_small, Velo.Search.gap_large, ← EReal.coe_mul, ← EReal.coe_mul,
      EReal.coe_lt_coe_iff] at this
  · have h1 := test_true (t i).1.1.1.1.1.1.1.2
    have h2 : Velo.sq A.data k ≤ Finset.fold max (Ideal.ofBits .f32 0xFF800000#32) (fun k => Velo.sq A.data k) Finset.univ :=
      (Finset.le_fold_max _).mpr (Or.inr ⟨k, Finset.mem_univ k, le_rfl⟩)
    have h3 := (add_le_add (le_refl (1 : EReal)) h2).trans h1
    rwa [X.far_eq, X.len_eq, Velo.Search.spread, ← EReal.coe_mul, ← EReal.coe_one, ← EReal.coe_add, EReal.coe_le_coe_iff] at h3

end Cert.ReferenceIdeal.Ref

end
-- ==== Proof.lean ====
/- The proof of the certificate's claim: the three frames, the one rewrite of the ideal form, and the equality of the
   results, five of them whatever the arguments hold and all six under the precondition, each from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Ref
public import proofs.«01_k».proof.Proof.RefCost
public import proofs.«01_k».proof.Proof.KernelCost
public import proofs.«01_k».proof.Proof.Best
public import proofs.«01_k».proof.Proof.Pre
public import Idealize.ShloMosaic.Adequacy
public import Idealize.ShloMosaic.Init

@[expose] public section

noncomputable section

namespace Cert.Proof

open Idealize.ShloMosaic Idealize.SL.Sem

/-- The side conditions of the mask of results. -/
theorem mask_facts : Cert.On_all_but_cost.Facts where
  bcast_S_S10000x1 := by decide
  bcast_S_S1x1 := by decide

/-- The reference runs, leaves its arguments unchanged and declares no semaphore. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- The reference's data is the kernel's when the arguments agree. -/
theorem data_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD} (h : Cert.ReferenceIdeal.Ref.argsOf m' c = ⟨
      m ((c.tc : Thread Cert.KernelIdeal.nD Cert.KernelIdeal.τ).loc Cert.KernelIdeal.main_arg0),
      m ((c.tc : Thread Cert.KernelIdeal.nD Cert.KernelIdeal.τ).loc Cert.KernelIdeal.main_arg1),
      m ((c.tc : Thread Cert.KernelIdeal.nD Cert.KernelIdeal.τ).loc Cert.KernelIdeal.main_arg2),
      m ((c.tc : Thread Cert.KernelIdeal.nD Cert.KernelIdeal.τ).loc Cert.KernelIdeal.main_arg3),
      m ((c.tc : Thread Cert.KernelIdeal.nD Cert.KernelIdeal.τ).loc Cert.KernelIdeal.main_arg4),
      m ((c.tc : Thread Cert.KernelIdeal.nD Cert.KernelIdeal.τ).loc Cert.KernelIdeal.main_arg5),
      m ((c.tc : Thread Cert.KernelIdeal.nD Cert.KernelIdeal.τ).loc Cert.KernelIdeal.main_arg6),
      m ((c.tc : Thread Cert.KernelIdeal.nD Cert.KernelIdeal.τ).loc Cert.KernelIdeal.main_arg8),
      m ((c.tc : Thread Cert.KernelIdeal.nD Cert.KernelIdeal.τ).loc Cert.KernelIdeal.main_arg9),
      m ((c.tc : Thread Cert.KernelIdeal.nD Cert.KernelIdeal.τ).loc Cert.KernelIdeal.main_arg10),
      m ((c.tc : Thread Cert.KernelIdeal.nD Cert.KernelIdeal.τ).loc Cert.KernelIdeal.main_arg11)⟩) :
    (Cert.ReferenceIdeal.Ref.argsOf m' c).data = Cert.KernelIdeal.Bodies.dataOf m c := by
  rw [h]; rfl

/-- The mask leaves out the cost. -/
theorem mask_cost [Cert.On_all_but_cost.Facts] (i : (⟨2, ![1, 1]⟩ : Shape).Idx) (a0 a1 : _) (a2 a3 a4 : _) (a5 a6 : _) (a7 : _)
    (a8 : _) (a9 : _) (a10 : _) (a11 : _)
    (h : (Cert.On_all_but_cost.fn (F := Ideal) a0 a1 a2 a3 a4 a5 a6 a7 a8 a9 a10 a11).1 i = 1#1) : False :=
  absurd h (show ¬ ((0#1 : BitVec 1) = 1#1) by decide)

/-- The five cell-wise results agree, whatever the arguments hold. -/
theorem cells : Cert.algebraic_KernelIdeal_ReferenceIdeal_on_all_but_cost (hOn_all_but_cost := mask_facts) := by
  letI := mask_facts
  intro m ρ m' ρ' _ hag
  have hd : ∀ c, (Cert.ReferenceIdeal.Ref.argsOf m' c).data = Cert.KernelIdeal.Bodies.dataOf m c := fun c => by
    obtain ⟨h0, h1, h2, h3, h4, h5, h6, _, h8, h9, h10, h11⟩ := hag c
    refine data_eq ?_
    unfold Cert.ReferenceIdeal.Ref.argsOf
    rw [h0, h1, h2, h3, h4, h5, h6, h8, h9, h10, h11]
  refine ⟨fun c => (Cert.KernelIdeal.Gen.dats m 0 c).arrAt 12 Cert.KernelIdeal.cfg0.N,
    fun c => Cert.KernelIdeal.Arrays.column (Velo.u1 (Cert.KernelIdeal.Bodies.dataOf m c)),
    fun c => Cert.KernelIdeal.Arrays.column (Velo.s1 (Cert.KernelIdeal.Bodies.dataOf m c)),
    fun c => Cert.KernelIdeal.Arrays.column (Velo.al (Cert.KernelIdeal.Bodies.dataOf m c)),
    fun c => Cert.KernelIdeal.Arrays.column (Velo.be (Cert.KernelIdeal.Bodies.dataOf m c)),
    fun c => Cert.KernelIdeal.Arrays.column (Velo.ga (Cert.KernelIdeal.Bodies.dataOf m c)), ?_, ?_⟩
  · refine (θ_run _ _ _).mono (fun r h c => ?_) (Cert.KernelIdeal.Arrays.run_cells m ρ)
    obtain ⟨h0, h1, h2, h3, h4, h5, hr⟩ := h c
    exact ⟨fun i _ => congrFun h0 i, fun i _ => congrFun h1 i, fun i _ => congrFun h2 i, fun i _ => congrFun h3 i,
      fun i _ => congrFun h4 i, fun i _ => congrFun h5 i, hr⟩
  · refine (θ_run _ _ _).mono (fun r h c => ?_) (Cert.ReferenceIdeal.Ref.run_cells m' ρ')
    obtain ⟨h0, h1, h2, h3, h4, h5, hr⟩ := h c
    rw [hd c] at h1 h2 h3 h4 h5
    exact ⟨fun i hi => (mask_cost i _ _ _ _ _ _ _ _ _ _ _ _ hi).elim, fun i _ => congrFun h1 i,
      fun i _ => congrFun h2 i, fun i _ => congrFun h3 i, fun i _ => congrFun h4 i, fun i _ => congrFun h5 i, hr⟩

/-- The array of the cost in the kernel is the reference's, where the precondition holds. -/
theorem cost_eq {m : (ℓ : Loc Cert.KernelIdeal.nD Cert.KernelIdeal.τ Cert.KernelIdeal.sig) → Buf (Elt Ideal) ℓ}
    {c : Dev Cert.KernelIdeal.nD} (A : Cert.ReferenceIdeal.Ref.Args) (hd : A.data = Cert.KernelIdeal.Bodies.dataOf m c)
    (hX : ∃ X : Velo.Num A.data, X.Apart) :
    Cert.ReferenceIdeal.Read.val_main_v121 (F := Ideal) A.a0 A.a1 A.a2 A.a3 A.a4 A.a5 A.a6 A.a8 A.a9 A.a10 A.a11
      = (Cert.KernelIdeal.Gen.dats m 0 c).arrAt 12 Cert.KernelIdeal.cfg0.N := by
  rw [hd] at hX
  obtain ⟨X, h⟩ := hX
  funext j
  rw [Cert.KernelIdeal.KernelCost.one_place j, Cert.ReferenceIdeal.Ref.v121_apply, hd, Cert.KernelIdeal.KernelCost.arr12,
    IdealRules.named_const.ideal_named_scalar _ _ _ _ rfl]
  exact (X.cost_eq h).symm

/-- All six results agree where every cell's thirty nearest stand apart. -/
theorem all : Cert.algebraic_KernelIdeal_ReferenceIdeal_pre_thirty_nearest_apart
    (hPre_thirty_nearest_apart := Cert.ReferenceIdeal.Ref.pre_facts) := by
  letI := Cert.ReferenceIdeal.Ref.pre_facts
  intro m ρ m' ρ' hpre hag
  have ha : ∀ c, Cert.ReferenceIdeal.Ref.argsOf m' c = ⟨
      m ((c.tc : Thread Cert.KernelIdeal.nD Cert.KernelIdeal.τ).loc Cert.KernelIdeal.main_arg0),
      m ((c.tc : Thread Cert.KernelIdeal.nD Cert.KernelIdeal.τ).loc Cert.KernelIdeal.main_arg1),
      m ((c.tc : Thread Cert.KernelIdeal.nD Cert.KernelIdeal.τ).loc Cert.KernelIdeal.main_arg2),
      m ((c.tc : Thread Cert.KernelIdeal.nD Cert.KernelIdeal.τ).loc Cert.KernelIdeal.main_arg3),
      m ((c.tc : Thread Cert.KernelIdeal.nD Cert.KernelIdeal.τ).loc Cert.KernelIdeal.main_arg4),
      m ((c.tc : Thread Cert.KernelIdeal.nD Cert.KernelIdeal.τ).loc Cert.KernelIdeal.main_arg5),
      m ((c.tc : Thread Cert.KernelIdeal.nD Cert.KernelIdeal.τ).loc Cert.KernelIdeal.main_arg6),
      m ((c.tc : Thread Cert.KernelIdeal.nD Cert.KernelIdeal.τ).loc Cert.KernelIdeal.main_arg8),
      m ((c.tc : Thread Cert.KernelIdeal.nD Cert.KernelIdeal.τ).loc Cert.KernelIdeal.main_arg9),
      m ((c.tc : Thread Cert.KernelIdeal.nD Cert.KernelIdeal.τ).loc Cert.KernelIdeal.main_arg10),
      m ((c.tc : Thread Cert.KernelIdeal.nD Cert.KernelIdeal.τ).loc Cert.KernelIdeal.main_arg11)⟩ := fun c => by
    obtain ⟨h0, h1, h2, h3, h4, h5, h6, _, h8, h9, h10, h11⟩ := hag c
    unfold Cert.ReferenceIdeal.Ref.argsOf
    rw [h0, h1, h2, h3, h4, h5, h6, h8, h9, h10, h11]
  have hc : ∀ c, _ := fun c => cost_eq (Cert.ReferenceIdeal.Ref.argsOf m' c) (data_eq (ha c))
    (by rw [ha c]; exact Cert.ReferenceIdeal.Ref.apart_of _ _ (hpre c))
  refine ⟨fun c => (Cert.KernelIdeal.Gen.dats m 0 c).arrAt 12 Cert.KernelIdeal.cfg0.N,
    fun c => Cert.KernelIdeal.Arrays.column (Velo.u1 (Cert.KernelIdeal.Bodies.dataOf m c)),
    fun c => Cert.KernelIdeal.Arrays.column (Velo.s1 (Cert.KernelIdeal.Bodies.dataOf m c)),
    fun c => Cert.KernelIdeal.Arrays.column (Velo.al (Cert.KernelIdeal.Bodies.dataOf m c)),
    fun c => Cert.KernelIdeal.Arrays.column (Velo.be (Cert.KernelIdeal.Bodies.dataOf m c)),
    fun c => Cert.KernelIdeal.Arrays.column (Velo.ga (Cert.KernelIdeal.Bodies.dataOf m c)),
    Cert.KernelIdeal.Arrays.run_cells m ρ, ?_⟩
  refine (θ_run _ _ _).mono (fun r h c => ?_) (Cert.ReferenceIdeal.Ref.run_cells m' ρ')
  obtain ⟨h0, h1, h2, h3, h4, h5, hr⟩ := h c
  rw [data_eq (ha c)] at h1 h2 h3 h4 h5
  exact ⟨h0.trans (hc c), h1, h2, h3, h4, h5, hr⟩

/-- Everything that the certificate claims. -/
theorem claim : Cert.Claim :=
  ⟨Cert.Kernel.Gen.facts, Cert.KernelIdeal.Gen.facts, Cert.ReferenceIdeal.Gen.facts,
    Cert.ReferenceIdeal.Ref.pre_facts, mask_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    IdealRules.named_const.statement Cert.KernelIdeal.κ "inv_n" .f32 0x38D1B717#32 _ rfl, cells, all⟩

end Cert.Proof

end
